-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S512x16 : Shape := ⟨2, ![512, 16]⟩
abbrev S_ : Shape := ⟨0, ![]⟩

class Facts : Prop where
  bcast_S_S512x16 : S_.BroadcastsInDim S512x16 (![] : Fin 0 → Fin S512x16.rank)
  reducesTo_S512x16_S_d0_1 : S512x16.ReducesTo [0, 1] S_
  h_S_ : 0 < S_.numel
  dot_S512x256_S256x16_S512x16_1_0_0_1_n_n_wf : DotDims.WF S512x256 S256x16 S512x16 [1] [0] [0] [1] [] []

variable [Facts]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def fn {F : FTy → Type} [FloatOps F] (main_arg0 : FVec F S512x256 .f32) (main_arg1 : FVec F S256x16 .f32) (main_arg2 : IVec S512x1 32) (main_arg3 : FVec F S4x256x512 .f32) (main_arg4 : FVec F S256x512 .f32) : IVec S_ 1 :=
  let main_v0 : FVec F S512x16 .f32 := (fun l r => Host.dotGeneral dot_S512x256_S256x16_S512x16_1_0_0_1_n_n none l r) main_arg0 main_arg1
  let main_v1 : FVec F S512x16 .f32 := Host.absf main_v0
  let main_cst : FVec F S_ .f32 := constant S_ .f32 0x7F800000#32
  let main_v2 : FVec F S512x16 .f32 := broadcastInDim S512x16 ![] bcast_S_S512x16 main_cst
  let main_v3 : IVec S512x16 1 := cmpf .olt main_v1 main_v2
  let main_c : IVec S_ 1 := constantI S_ 1 1#1
  let main_v4 : IVec S_ 1 := (fun x v => Host.reduce IntOp.andi x v reducesTo_S512x16_S_d0_1 h_S_) main_v3 main_c
  main_v4
-- ==== Pre_finite_scores_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩

class Facts : Prop where
  bcast_S_S512x16 : S_.BroadcastsInDim S512x16 (![] : Fin 0 → Fin S512x16.rank)
  reducesTo_S512x16_S_d0_1 : S512x16.ReducesTo [0, 1] S_
  h_S_ : 0 < S_.numel
  dot_S512x256_S256x16_S512x16_1_0_0_1_n_n_wf : DotDims.WF S512x256 S256x16 S512x16 [1] [0] [0] [1] [] []

variable [Facts]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def fn {F : FTy → Type} [FloatOps F] (main_arg0 : FVec F S512x256 .f32) (main_arg1 : FVec F S256x16 .f32) (main_arg2 : IVec S512x1 32) (main_arg3 : FVec F S16x256x512 .f32) (main_arg4 : FVec F S256x512 .f32) : IVec S_ 1 :=
  let main_v0 : FVec F S512x16 .f32 := (fun l r => Host.dotGeneral dot_S512x256_S256x16_S512x16_1_0_0_1_n_n none l r) main_arg0 main_arg1
  let main_v1 : FVec F S512x16 .f32 := Host.absf main_v0
  let main_cst : FVec F S_ .f32 := constant S_ .f32 0x7F800000#32
  let main_v2 : FVec F S512x16 .f32 := broadcastInDim S512x16 ![] bcast_S_S512x16 main_cst
  let main_v3 : IVec S512x16 1 := cmpf .olt main_v1 main_v2
  let main_c : IVec S_ 1 := constantI S_ 1 1#1
  let main_v4 : IVec S_ 1 := (fun x v => Host.reduce IntOp.andi x v reducesTo_S512x16_S_d0_1 h_S_) main_v3 main_c
  main_v4
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S6x64x512 : Shape := ⟨3, ![6, 64, 512]⟩
abbrev S2x64x512 : Shape := ⟨3, ![2, 64, 512]⟩
abbrev S1024x512 : Shape := ⟨2, ![1024, 512]⟩
abbrev S6 : Shape := ⟨1, ![6]⟩
abbrev S_ : Shape := ⟨0, ![]⟩
abbrev S1x256x512 : Shape := ⟨3, ![1, 256, 512]⟩
abbrev S512x16 : Shape := ⟨2, ![512, 16]⟩
abbrev S512 : Shape := ⟨1, ![512]⟩
abbrev S128x256 : Shape := ⟨2, ![128, 256]⟩
abbrev S128x1 : Shape := ⟨2, ![128, 1]⟩
abbrev S128x1024 : Shape := ⟨2, ![128, 1024]⟩
abbrev S128x512 : Shape := ⟨2, ![128, 512]⟩
abbrev S64x512 : Shape := ⟨2, ![64, 512]⟩
abbrev S1x64x512 : Shape := ⟨3, ![1, 64, 512]⟩
abbrev S1 : Shape := ⟨1, ![1]⟩

abbrev nBuf : Space → Nat
  | .hbm => 6
  | .vmem => 13
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S6x64x512, .bf16⟩
  | .local _ .vmem, ⟨7, _⟩ => ⟨S6x64x512, .bf16⟩
  | .local _ .vmem, ⟨8, _⟩ => ⟨S6x64x512, .bf16⟩
  | .local _ .vmem, ⟨9, _⟩ => ⟨S2x64x512, .bf16⟩
  | .local _ .vmem, ⟨10, _⟩ => ⟨S1024x512, .bf16⟩
  | .local _ .vmem, ⟨11, _⟩ => ⟨S256x512, .bf16⟩
  | .local _ .vmem, ⟨12, _⟩ => ⟨S512x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_42 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v72 : BitVec 32 := Scalar.addi v2 c2_i32_42
  let c4_i32_43 : BitVec 32 := 4#32
  let v73 : BitVec 32 := Scalar.remsi v72 c4_i32_43
  let c128_i32 : BitVec 32 := 128#32
  let v74 : BitVec 32 := Scalar.muli v73 c128_i32
  let v75 : Index := Scalar.indexCast v74
  let c0_44 : Index := 0#32
  ![v75.toNat, 0]
def k0_off2 (d0 : Dev nD) (c2_i32_42 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v72 : BitVec 32 := Scalar.addi v2 c2_i32_42
  let c4_i32_43 : BitVec 32 := 4#32
  let v73 : BitVec 32 := Scalar.remsi v72 c4_i32_43
  let c128_i32 : BitVec 32 := 128#32
  let v74 : BitVec 32 := Scalar.muli v73 c128_i32
  let v78 : Index := Scalar.indexCast v74
  let c0_45 : Index := 0#32
  ![v78.toNat, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v127 : BitVec 32 := Scalar.addi v2 c2_i32_65
  let c4_i32_66 : BitVec 32 := 4#32
  let v128 : BitVec 32 := Scalar.remsi v127 c4_i32_66
  let c1_i32_71 : BitVec 32 := 1#32
  let v129 : BitVec 32 := Scalar.muli v128 c1_i32_71
  let v130 : BitVec 32 := Scalar.addi c0_i32_72 v129
  v130.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_80 : BitVec 32 := 2#32
  let v144 : BitVec 32 := Scalar.addi v2 c2_i32_80
  let c4_i32_81 : BitVec 32 := 4#32
  let v145 : BitVec 32 := Scalar.remsi v144 c4_i32_81
  let c1_i32_86 : BitVec 32 := 1#32
  let v146 : BitVec 32 := Scalar.muli v145 c1_i32_86
  let v147 : BitVec 32 := Scalar.addi c0_i32_87 v146
  v147.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_116 : BitVec 32 := 1#32
  let v211 : BitVec 32 := Scalar.addi v2 c1_i32_116
  let c4_i32_117 : BitVec 32 := 4#32
  let v212 : BitVec 32 := Scalar.remsi v211 c4_i32_117
  let c1_i32_122 : BitVec 32 := 1#32
  let v213 : BitVec 32 := Scalar.muli v212 c1_i32_122
  let v214 : BitVec 32 := Scalar.addi c0_i32_123 v213
  v214.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v228 : BitVec 32 := Scalar.addi v2 c1_i32_131
  let c4_i32_132 : BitVec 32 := 4#32
  let v229 : BitVec 32 := Scalar.remsi v228 c4_i32_132
  let c1_i32_137 : BitVec 32 := 1#32
  let v230 : BitVec 32 := Scalar.muli v229 c1_i32_137
  let v231 : BitVec 32 := Scalar.addi c0_i32_138 v230
  v231.toNat
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_166 : BitVec 32 := 3#32
  let v295 : BitVec 32 := Scalar.addi v2 c3_i32_166
  let c4_i32_167 : BitVec 32 := 4#32
  let v296 : BitVec 32 := Scalar.remsi v295 c4_i32_167
  let c1_i32_172 : BitVec 32 := 1#32
  let v297 : BitVec 32 := Scalar.muli v296 c1_i32_172
  let v298 : BitVec 32 := Scalar.addi c0_i32_173 v297
  v298.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_180 : BitVec 32 := 3#32
  let v312 : BitVec 32 := Scalar.addi v2 c3_i32_180
  let c4_i32_181 : BitVec 32 := 4#32
  let v313 : BitVec 32 := Scalar.remsi v312 c4_i32_181
  let c1_i32_185 : BitVec 32 := 1#32
  let v314 : BitVec 32 := Scalar.muli v313 c1_i32_185
  let v315 : BitVec 32 := Scalar.addi c0_i32_186 v314
  v315.toNat
def k0_dev10 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_281 : BitVec 32 := 2#32
  let v433 : BitVec 32 := Scalar.addi v2 c2_i32_281
  let c4_i32_282 : BitVec 32 := 4#32
  let v434 : BitVec 32 := Scalar.remsi v433 c4_i32_282
  let c1_i32_287 : BitVec 32 := 1#32
  let v435 : BitVec 32 := Scalar.muli v434 c1_i32_287
  let v436 : BitVec 32 := Scalar.addi c0_i32_288 v435
  v436.toNat
def k0_dev11 (d0 : Dev nD) : Nat :=
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_293 : BitVec 32 := 1#32
  let v445 : BitVec 32 := Scalar.addi v2 c1_i32_293
  let c4_i32_294 : BitVec 32 := 4#32
  let v446 : BitVec 32 := Scalar.remsi v445 c4_i32_294
  let c1_i32_299 : BitVec 32 := 1#32
  let v447 : BitVec 32 := Scalar.muli v446 c1_i32_299
  let v448 : BitVec 32 := Scalar.addi c0_i32_300 v447
  v448.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_305 : BitVec 32 := 3#32
  let v457 : BitVec 32 := Scalar.addi v2 c3_i32_305
  let c4_i32_306 : BitVec 32 := 4#32
  let v458 : BitVec 32 := Scalar.remsi v457 c4_i32_306
  let c1_i32_311 : BitVec 32 := 1#32
  let v459 : BitVec 32 := Scalar.muli v458 c1_i32_311
  let v460 : BitVec 32 := Scalar.addi c0_i32_312 v459
  v460.toNat
def k0_dev13 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_386 : BitVec 32 := 2#32
  let v528 : BitVec 32 := Scalar.addi v2 c2_i32_386
  let c4_i32_387 : BitVec 32 := 4#32
  let v529 : BitVec 32 := Scalar.remsi v528 c4_i32_387
  let c1_i32_392 : BitVec 32 := 1#32
  let v530 : BitVec 32 := Scalar.muli v529 c1_i32_392
  let v531 : BitVec 32 := Scalar.addi c0_i32_393 v530
  v531.toNat
def k0_dev14 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_398 : BitVec 32 := 1#32
  let v540 : BitVec 32 := Scalar.addi v2 c1_i32_398
  let c4_i32_399 : BitVec 32 := 4#32
  let v541 : BitVec 32 := Scalar.remsi v540 c4_i32_399
  let c1_i32_404 : BitVec 32 := 1#32
  let v542 : BitVec 32 := Scalar.muli v541 c1_i32_404
  let v543 : BitVec 32 := Scalar.addi c0_i32_405 v542
  v543.toNat
def k0_dev15 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_410 : BitVec 32 := 3#32
  let v552 : BitVec 32 := Scalar.addi v2 c3_i32_410
  let c4_i32_411 : BitVec 32 := 4#32
  let v553 : BitVec 32 := Scalar.remsi v552 c4_i32_411
  let c1_i32_416 : BitVec 32 := 1#32
  let v554 : BitVec 32 := Scalar.muli v553 c1_i32_416
  let v555 : BitVec 32 := Scalar.addi c0_i32_417 v554
  v555.toNat
def k0_off3 (d0 : Dev nD) (c0_i32_428 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_427 : BitVec 32 := 128#32
  let v568 : BitVec 32 := Scalar.muli v2 c128_i32_427
  let v569 : BitVec 32 := Scalar.addi v568 c0_i32_428
  let v570 : Index := Scalar.indexCast v569
  let c0_429 : Index := 0#32
  ![v570.toNat, 0]
def k0_off4 (d0 : Dev nD) (c1_i32_460 : BitVec 32) (c0_i32_463 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_459 : BitVec 32 := 4#32
  let v604 : BitVec 32 := Scalar.addi v2 c4_i32_459
  let v605 : BitVec 32 := Scalar.subi v604 c1_i32_460
  let c4_i32_461 : BitVec 32 := 4#32
  let v606 : BitVec 32 := Scalar.remsi v605 c4_i32_461
  let c128_i32_462 : BitVec 32 := 128#32
  let v607 : BitVec 32 := Scalar.muli v606 c128_i32_462
  let v608 : BitVec 32 := Scalar.addi v607 c0_i32_463
  let v609 : Index := Scalar.indexCast v608
  let c0_464 : Index := 0#32
  ![v609.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x2 : Shape := ⟨2, ![512, 2]⟩
abbrev S2 : Shape := ⟨1, ![2]⟩
abbrev S1x2 : Shape := ⟨2, ![1, 2]⟩
abbrev S512x256x512 : Shape := ⟨3, ![512, 256, 512]⟩

abbrev nBuf : Space → Nat
  | .hbm => 44
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S16x256x512, .f32⟩
  | .hbm, ⟨4, _⟩ => ⟨S256x512, .f32⟩
  | .hbm, ⟨5, _⟩ => ⟨S512x16, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x16, .f32⟩
  | .hbm, ⟨10, _⟩ => ⟨S512x16, .f32⟩
  | .hbm, ⟨11, _⟩ => ⟨S512x16, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x16, .f32⟩
  | .hbm, ⟨16, _⟩ => ⟨S512x16, .f32⟩
  | .hbm, ⟨17, _⟩ => ⟨S512x512, .f32⟩
  | .hbm, ⟨18, _⟩ => ⟨S512, .i32⟩
  | .hbm, ⟨19, _⟩ => ⟨S512, .i32⟩
  | .hbm, ⟨20, _⟩ => ⟨S512x1, .i32⟩
  | .hbm, ⟨21, _⟩ => ⟨S512x1, .i32⟩
  | .hbm, ⟨22, _⟩ => ⟨S512x2, .i32⟩
  | .hbm, ⟨23, _⟩ => ⟨S2, .i32⟩
  | .hbm, ⟨24, _⟩ => ⟨S_, .i32⟩
  | .hbm, ⟨25, _⟩ => ⟨S512x2, .i32⟩
  | .hbm, ⟨26, _⟩ => ⟨S512x2, .i1⟩
  | .hbm, ⟨27, _⟩ => ⟨S1x2, .i32⟩
  | .hbm, ⟨28, _⟩ => ⟨S512x2, .i32⟩
  | .hbm, ⟨29, _⟩ => ⟨S512x2, .i1⟩
  | .hbm, ⟨30, _⟩ => ⟨S512x2, .i1⟩
  | .hbm, ⟨31, _⟩ => ⟨S_, .i1⟩
  | .hbm, ⟨32, _⟩ => ⟨S512, .i1⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512x1, .i32⟩
  | .hbm, ⟨38, _⟩ => ⟨S512x256x512, .f32⟩
  | .hbm, ⟨39, _⟩ => ⟨S512x512, .f32⟩
  | .hbm, ⟨40, _⟩ => ⟨S512x1, .f32⟩
  | .hbm, ⟨41, _⟩ => ⟨S512x512, .f32⟩
  | .hbm, ⟨42, _⟩ => ⟨S512x512, .f32⟩
  | .hbm, ⟨43, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.KernelIdeal.Protocol.lean ====
/-
# The exchange: who hands what to whom

Four devices sit on a ring. Each device cuts what its own experts contribute into four row chunks, sends the three
chunks that belong to the others (a reduce-scatter, each chunk in two halves), adds the three chunks that it receives
to its own, and sends the reduced chunk back to the three others (an all-gather, again in halves).

Slot `s : Fin 6` of a buffer is hop `s / 2 + 1` and half `s % 2`: the copy of slot `s` goes to the device `s / 2 + 1`
places on, into that device's slot `s`.

One round of duties on each semaphore:

* the barrier cell of a device has three duties of one unit. Duty `j` is paid by the device `j + 1` places on, and hands
  over that device's landing slots `2 j` and `2 j + 1`, of both landing buffers: the slots into which the waiting device
  will copy;
* a send cell has one duty, which gives back the source of the copy;
* a receive cell has one duty, which hands over the landing slot with the contents of the sender's source.

Levels: staging and send cells 0, the barrier 1, receive cells of the reduce-scatter 2, of the all-gather 3.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `n` places on. -/
def up (n : ℕ) (c : Dev nD) : Dev nD := ⟨(c.val + n) % 4, Nat.mod_lt _ (by decide)⟩

/-- Where slot `s` of device `c` is copied to. -/
def dst (s : Fin 6) (c : Dev nD) : Dev nD := up (s.val / 2 + 1) c
/-- Where slot `s` of device `c` comes from. -/
def src (s : Fin 6) (c : Dev nD) : Dev nD := up (3 - s.val / 2) c

theorem dst_src (s : Fin 6) (c : Dev nD) : dst s (src s c) = c := by revert s c; decide
theorem src_dst (s : Fin 6) (c : Dev nD) : src s (dst s c) = c := by revert s c; decide

/-- A slot's half, and its hop less one. -/
def half (s : Fin 6) : Fin 2 := ⟨s.val % 2, Nat.mod_lt _ (by decide)⟩
def hop (s : Fin 6) : Fin 3 := ⟨s.val / 2, by omega⟩

/-! ## The slots of the exchange buffers -/

abbrev partM : Memref sig .tc .vmem S6x64x512 .bf16 := Memref.whole cc0_scratch0
abbrev rsM : Memref sig .tc .vmem S6x64x512 .bf16 := Memref.whole cc0_scratch1
abbrev agM : Memref sig .tc .vmem S6x64x512 .bf16 := Memref.whole cc0_scratch2
abbrev redM : Memref sig .tc .vmem S2x64x512 .bf16 := Memref.whole cc0_scratch3

theorem slot_inb (s : Fin 6) : ∀ a, (![s.val, 0, 0] : Fin 3 → ℕ) a + S1x64x512.size a ≤ S6x64x512.size a := by revert s; decide
theorem half_inb (h : Fin 2) : ∀ a, (![h.val, 0, 0] : Fin 3 → ℕ) a + S1x64x512.size a ≤ S2x64x512.size a := by revert h; decide

/-- Slot `s` of a six-slot buffer, and half `h` of the two-slot buffer, as rectangles. -/
abbrev slotR (s : Fin 6) : Rect S6x64x512 := Rect.unit (s := S6x64x512) ![s.val, 0, 0] S1x64x512.size (slot_inb s)
abbrev halfR (h : Fin 2) : Rect S2x64x512 := Rect.unit (s := S2x64x512) ![h.val, 0, 0] S1x64x512.size (half_inb h)

abbrev slotM (M : Memref sig .tc .vmem S6x64x512 .bf16) (s : Fin 6) : Memref sig .tc .vmem S1x64x512 .bf16 :=
  M.slice (slotR s) (fun _ => rfl)
abbrev halfM (M : Memref sig .tc .vmem S2x64x512 .bf16) (h : Fin 2) : Memref sig .tc .vmem S1x64x512 .bf16 :=
  M.slice (halfR h) (fun _ => rfl)

/-- A slot as the copies name it: without its axis of size one. -/
abbrev sq (M : Memref sig .tc .vmem S1x64x512 .bf16) : Memref sig .tc .vmem S64x512 .bf16 :=
  M.squeeze S64x512 squeezes_S1x64x512_S64x512

/-- Device `c` holds slot `s` of a six-slot buffer, at contents `X`. -/
def slotAt (M : Memref sig .tc .vmem S6x64x512 .bf16) (c : Dev nD) (s : Fin 6) (X : Vec F S1x64x512 .bf16) : sProp 𝕄 :=
  owns (c : Thread nD τ) (slotM M s) fullShare X
/-- Device `c` holds half `h` of its reduced chunk at share `q`, at contents `X`. -/
def redAt (c : Dev nD) (h : Fin 2) (q : PosShare TreeShare) (X : Vec F S1x64x512 .bf16) : sProp 𝕄 :=
  owns (c : Thread nD τ) (halfM redM h) q X

omit [FloatOps F] in
instance slotAt_storable (M : Memref sig .tc .vmem S6x64x512 .bf16) (c : Dev nD) (s : Fin 6) (X : Vec F S1x64x512 .bf16) :
    BI.Storable (upEmb : UEmb _ 𝕄) (slotAt M c s X) := by unfold slotAt; infer_instance
omit [FloatOps F] in
instance redAt_storable (c : Dev nD) (h : Fin 2) (q : PosShare TreeShare) (X : Vec F S1x64x512 .bf16) :
    BI.Storable (upEmb : UEmb _ 𝕄) (redAt c h q X) := by unfold redAt; infer_instance

/-- The share at which the copy of hop `j + 1` reads the reduced chunk: a quarter each; the last quarter stays for the
    device's own loads. -/
def quarter (j : Fin 3) : PosShare TreeShare :=
  match j with
  | 0 => fullShare.left.left
  | 1 => fullShare.left.right
  | 2 => fullShare.right.left
def lastQuarter : PosShare TreeShare := fullShare.right.right

/-! ## The cells -/

abbrev barS : Sem sig := (SemArray.scalar (sig.barrier 0 rfl) : Sems sig S_).sem

/-- The send and receive semaphores of the two phases: phase 0 is the reduce-scatter, phase 1 the all-gather. -/
def sendS (p : Fin 2) (s : Fin 6) : DmaSem sig := (⟨6 + 12 * p.val + s.val, by omega⟩ : Fin 30)
def recvS (p : Fin 2) (s : Fin 6) : DmaSem sig := (⟨12 + 12 * p.val + s.val, by omega⟩ : Fin 30)

abbrev barCell (c : Dev nD) : GSem nD τ sig := ((c : Thread nD τ), .reg barS)
abbrev sendCell (p : Fin 2) (s : Fin 6) (c : Dev nD) : GSem nD τ sig := ((c : Thread nD τ), .dma (sendS p s))
abbrev recvCell (p : Fin 2) (s : Fin 6) (c : Dev nD) : GSem nD τ sig := ((c : Thread nD τ), .dma (recvS p s))

/-- What one copy of a slot credits. -/
abbrev N : ℕ := (sq (slotM rsM 0)).view.dmaCredit
theorem N_pos : 0 < N := View.dmaCredit_pos _ (by decide)

/-! ## The schedule -/

section Schedule

-- what each device copies in the reduce-scatter, slot by slot, and in the all-gather, half by half
variable (pt : Dev nD → Fin 6 → Vec F S1x64x512 .bf16) (rd : Dev nD → Fin 2 → Vec F S1x64x512 .bf16)

/-- Duty `j` of `c`'s barrier: the landing slots of the device `j + 1` places on that `c` copies into. -/
def barPay (c : Dev nD) (j : Fin 3) : sProp 𝕄 :=
  iprop((∃ X, slotAt (F := F) rsM (up (j.val + 1) c) ⟨2 * j.val, by omega⟩ X) ∗ (∃ X, slotAt (F := F) rsM (up (j.val + 1) c) ⟨2 * j.val + 1, by omega⟩ X)
    ∗ (∃ X, slotAt (F := F) agM (up (j.val + 1) c) ⟨2 * j.val, by omega⟩ X) ∗ (∃ X, slotAt (F := F) agM (up (j.val + 1) c) ⟨2 * j.val + 1, by omega⟩ X))

def sendPay (p : Fin 2) (s : Fin 6) (c : Dev nD) : sProp 𝕄 :=
  if p = 0 then slotAt partM c s (pt c s) else redAt c (half s) (quarter (hop s)) (rd c (half s))
def recvPay (p : Fin 2) (s : Fin 6) (c : Dev nD) : sProp 𝕄 :=
  if p = 0 then slotAt rsM c s (pt (src s c) s) else slotAt agM c s (rd (src s c) (half s))

/-- What DMA semaphore `n` of device `c` hands over: semaphores 6 to 11 and 18 to 23 are the send semaphores, 12 to 17
    and 24 to 29 the receive semaphores. -/
def dmaPay (c : Dev nD) (n : ℕ) : sProp 𝕄 :=
  if n / 6 = 1 then sendPay pt rd 0 ⟨n % 6, Nat.mod_lt _ (by decide)⟩ c
  else if n / 6 = 2 then recvPay pt rd 0 ⟨n % 6, Nat.mod_lt _ (by decide)⟩ c
  else if n / 6 = 3 then sendPay pt rd 1 ⟨n % 6, Nat.mod_lt _ (by decide)⟩ c
  else recvPay pt rd 1 ⟨n % 6, Nat.mod_lt _ (by decide)⟩ c

def cellPay (g : GSem nD τ sig) (j : Fin 3) : sProp 𝕄 :=
  match g.2 with
  | .reg _ => barPay g.1.1 j
  | .dma q => dmaPay pt rd g.1.1 q.val

def cellDuties (g : GSem nD τ sig) : Finset (Fin 3) :=
  if g.1.2 = .tc then match g.2 with
    | .reg _ => Finset.univ
    | .dma q => if 6 ≤ q.val then {0} else ∅
  else ∅

def cellAmount (g : GSem nD τ sig) : ℕ :=
  match g.2 with
  | .reg _ => 1
  | .dma _ => N

/-- The schedule: one round on each cell. -/
def moeRd : Rounds.Schedule (GSem nD τ sig) (Fin 3) 𝕄 where
  duties g r := if r = 0 then cellDuties g else ∅
  unitless _ := False
  amount g _ _ := cellAmount g
  payload g _ j := cellPay pt rd g j
  amount_pos g _ _ _ := by
    unfold cellAmount
    split
    · exact Nat.one_pos
    · exact N_pos

instance moeRd_payload_storable (g : GSem nD τ sig) (r : ℕ) (j : Fin 3) :
    BI.Storable (upEmb : UEmb _ 𝕄) ((moeRd pt rd).payload g r j) := by
  show BI.Storable upEmb (cellPay pt rd g j)
  unfold cellPay
  split
  · unfold barPay; infer_instance
  · unfold dmaPay sendPay recvPay
    (repeat' split) <;> infer_instance

variable (c : Dev nD) (p : Fin 2) (s : Fin 6)

omit [FloatOps F] in
theorem duties_bar : (moeRd pt rd).duties (barCell c) 0 = Finset.univ := by
  show (if (0 : ℕ) = 0 then cellDuties (barCell c) else ∅) = _
  rw [if_pos rfl]; unfold cellDuties; rw [if_pos rfl]
omit [FloatOps F] in
theorem duties_send : (moeRd pt rd).duties (sendCell p s c) 0 = {0} := by
  show (if (0 : ℕ) = 0 then cellDuties (sendCell p s c) else ∅) = _
  rw [if_pos rfl]; unfold cellDuties; rw [if_pos rfl]
  exact if_pos (by show 6 ≤ 6 + 12 * p.val + s.val; omega)
omit [FloatOps F] in
theorem duties_recv : (moeRd pt rd).duties (recvCell p s c) 0 = {0} := by
  show (if (0 : ℕ) = 0 then cellDuties (recvCell p s c) else ∅) = _
  rw [if_pos rfl]; unfold cellDuties; rw [if_pos rfl]
  exact if_pos (by show 6 ≤ 12 + 12 * p.val + s.val; omega)
omit [FloatOps F] in
theorem duties_later (g : GSem nD τ sig) : ∀ r, 1 ≤ r → (moeRd pt rd).duties g r = ∅ :=
  fun r hr => if_neg (by omega)

omit [FloatOps F] in
theorem payload_bar (j : Fin 3) : (moeRd pt rd).payload (barCell c) 0 j = barPay c j := rfl
omit [FloatOps F] in
theorem payload_send (j : Fin 3) : (moeRd pt rd).payload (sendCell p s c) 0 j = sendPay pt rd p s c := by
  show dmaPay pt rd c (6 + 12 * p.val + s.val) = _
  have e : (⟨(6 + 12 * p.val + s.val) % 6, Nat.mod_lt _ (by decide)⟩ : Fin 6) = s := Fin.ext (by show (6 + 12 * p.val + s.val) % 6 = s.val; omega)
  unfold dmaPay
  rw [e]
  rcases p with ⟨_ | _ | p, hp⟩
  · rw [if_pos (by dsimp only; omega)]; rfl
  · rw [if_neg (by dsimp only; omega), if_neg (by dsimp only; omega), if_pos (by dsimp only; omega)]; rfl
  · omega
omit [FloatOps F] in
theorem payload_recv (j : Fin 3) : (moeRd pt rd).payload (recvCell p s c) 0 j = recvPay pt rd p s c := by
  show dmaPay pt rd c (12 + 12 * p.val + s.val) = _
  have e : (⟨(12 + 12 * p.val + s.val) % 6, Nat.mod_lt _ (by decide)⟩ : Fin 6) = s := Fin.ext (by show (12 + 12 * p.val + s.val) % 6 = s.val; omega)
  unfold dmaPay
  rw [e]
  rcases p with ⟨_ | _ | p, hp⟩
  · rw [if_neg (by dsimp only; omega), if_pos (by dsimp only; omega)]; rfl
  · rw [if_neg (by dsimp only; omega), if_neg (by dsimp only; omega), if_neg (by dsimp only; omega)]; rfl
  · omega

omit [FloatOps F] in
theorem expect_bar : (moeRd pt rd).expect (barCell c) 0 = 3 := by
  unfold Schedule.expect Schedule.amountOf
  rw [duties_bar, Finset.sum_congr rfl fun d _ => show (moeRd pt rd).amount (barCell c) 0 d = 1 from rfl, Finset.sum_const, Finset.card_univ, Fintype.card_fin, smul_eq_mul]
omit [FloatOps F] in
theorem expect_send : (moeRd pt rd).expect (sendCell p s c) 0 = N := by
  unfold Schedule.expect Schedule.amountOf; rw [duties_send, Finset.sum_singleton]; rfl
omit [FloatOps F] in
theorem expect_recv : (moeRd pt rd).expect (recvCell p s c) 0 = N := by
  unfold Schedule.expect Schedule.amountOf; rw [duties_recv, Finset.sum_singleton]; rfl

omit [FloatOps F] in
theorem rest_bar : bigSep ((moeRd pt rd).duties (barCell c) 0 \ ∅) (fun d => (moeRd pt rd).payload (barCell c) 0 d)
    = iprop(barPay (F := F) c 0 ∗ barPay c 1 ∗ barPay c 2) := by
  rw [Finset.sdiff_empty, duties_bar, bigSep_univ_eq_bigSepL [0, 1, 2] (by decide) (by decide)]; rfl
omit [FloatOps F] in
theorem rest_send : bigSep ((moeRd pt rd).duties (sendCell p s c) 0 \ ∅) (fun d => (moeRd pt rd).payload (sendCell p s c) 0 d) = sendPay pt rd p s c := by
  rw [Finset.sdiff_empty, duties_send, bigSep_singleton, payload_send]
omit [FloatOps F] in
theorem rest_recv : bigSep ((moeRd pt rd).duties (recvCell p s c) 0 \ ∅) (fun d => (moeRd pt rd).payload (recvCell p s c) 0 d) = recvPay pt rd p s c := by
  rw [Finset.sdiff_empty, duties_recv, bigSep_singleton, payload_recv]

end Schedule

/-! ## What is owed, and the levels -/

/-- The units owed on a list of cells. The first of the list is paid first. -/
def due : List (GSem nD τ sig × ℕ) → CellTallies nD τ sig Unit
  | [] => 0
  | x :: l => due l + tallyAt x.1 () x.2

/-- The three signals, to the device 1, 2 and 3 places on; -/
def dueBar (c : Dev nD) : List (GSem nD τ sig × ℕ) := [(barCell (up 1 c), 1), (barCell (up 2 c), 1), (barCell (up 3 c), 1)]
/-- the copies of phase `p` in the slots of a list, each owing its receive cell. -/
def dueCopies (p : Fin 2) (l : List (Fin 6)) (c : Dev nD) : List (GSem nD τ sig × ℕ) := l.map fun s => (recvCell p s (dst s c), N)

/-- The order in which the slots are sent, in each phase. -/
abbrev order0 : List (Fin 6) := [2, 3, 0, 1, 4, 5]
abbrev order1 : List (Fin 6) := [2, 0, 4, 3, 1, 5]

def O₀ (c : Dev nD) : CellTallies nD τ sig Unit := due (dueBar c ++ (dueCopies 0 order0 c ++ dueCopies 1 order1 c))

def L (g : GSem nD τ sig) : Finset Unit := if g.1.2 = .tc then {()} else ∅
def lv (g : GSem nD τ sig) (_ : Unit) : ℕ :=
  match g.2 with
  | .reg _ => 1
  | .dma q => if q.val / 6 = 2 then 2 else if q.val / 6 = 4 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (p : Fin 2) (s : Fin 6) (c : Dev nD) : lv (sendCell p s c) () = 0 := by
  show (if (6 + 12 * p.val + s.val) / 6 = 2 then 2 else if (6 + 12 * p.val + s.val) / 6 = 4 then 3 else 0) = 0
  rw [if_neg (by omega), if_neg (by omega)]
theorem lv_recv (p : Fin 2) (s : Fin 6) (c : Dev nD) : lv (recvCell p s c) () = 2 + p.val := by
  show (if (12 + 12 * p.val + s.val) / 6 = 2 then 2 else if (12 + 12 * p.val + s.val) / 6 = 4 then 3 else 0) = 2 + p.val
  rcases p with ⟨_ | _ | p, hp⟩
  · rw [if_pos (by dsimp only; omega)]; rfl
  · rw [if_neg (by dsimp only; omega), if_pos (by dsimp only; omega)]; rfl
  · omega

theorem due_pos : ∀ (l : List (GSem nD τ sig × ℕ)) {g : GSem nD τ sig} {u : Unit}, 0 < due l g u → ∃ x ∈ l, g = x.1
  | [], g, u, h => absurd h (Nat.lt_irrefl 0)
  | x :: l, g, u, h => by
    unfold due at h
    rw [Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := due_pos l h
      exact ⟨y, List.mem_cons_of_mem _ hy, e⟩

omit [FloatOps F] in
/-- A core may wait on a cell of its own that lies below every cell on which it still owes. -/
theorem mayWait_due (c : Dev nD) (sm : SemLoc sig) (l : List (GSem nD τ sig × ℕ))
    (h : ∀ x ∈ l, x.1.1.2 = .tc ∧ lv ((c : Thread nD τ), sm) () < lv x.1 ()) :
    (levAts L lv : sProp 𝕄) ⊢ MayWait (c : Thread nD τ) sm () (due l) :=
  MayOwe.of_cut (L := L) (lev := lv) (lv ((c : Thread nD τ), sm) ())
    (fun p hp => by rw [Finset.mem_singleton.mp hp, L_tc]; exact Finset.mem_singleton_self _)
    (fun g u hg => by
      obtain ⟨x, hx, rfl⟩ := due_pos l hg
      unfold L; rw [if_pos (h x hx).1]; exact Finset.mem_singleton_self _)
    (fun p hp => by rw [Finset.mem_singleton.mp hp])
    (fun g u hg => by
      obtain ⟨x, hx, rfl⟩ := due_pos l hg
      exact (h x hx).2)

theorem above_copies (n : ℕ) (p : Fin 2) (l : List (Fin 6)) (c : Dev nD) (h : n < 2 + p.val) :
    ∀ x ∈ dueCopies p l c, x.1.1.2 = .tc ∧ n < lv x.1 () := by
  intro x hx
  obtain ⟨s, -, rfl⟩ := List.mem_map.mp hx
  exact ⟨rfl, by rw [lv_recv]; exact h⟩
theorem above_bar (n : ℕ) (c : Dev nD) (h : n < 1) : ∀ x ∈ dueBar c, x.1.1.2 = .tc ∧ n < lv x.1 () := by
  intro x hx
  unfold dueBar at hx
  simp only [List.mem_cons, List.not_mem_nil, or_false] at hx
  rcases hx with rfl | rfl | rfl <;> exact ⟨rfl, h⟩
theorem above_append {n : ℕ} {l l' : List (GSem nD τ sig × ℕ)} (h : ∀ x ∈ l, x.1.1.2 = .tc ∧ n < lv x.1 ())
    (h' : ∀ x ∈ l', x.1.1.2 = .tc ∧ n < lv x.1 ()) : ∀ x ∈ l ++ l', x.1.1.2 = .tc ∧ n < lv x.1 () := fun x hx =>
  (List.mem_append.mp hx).elim (h x) (h' x)

end Cert.KernelIdeal.Moe

end
-- ==== Proof.KernelIdeal.Rules.lean ====
/-
# One rule per kind of step

The exchange's steps, each stated once for every device, phase and slot: a load and a store through a rectangle of a
buffer; the signal to another device's barrier; the wait on the own barrier; a copy of a slot; the wait for a copy sent
and for a copy received. A wait also closes its cell: nothing lands there again.
-/
module

public import proofs.«01_k».proof.Proof.KernelIdeal.Protocol
public import Idealize.ShloMosaic.Lib.ViewIndex

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a program of device `c` to the postcondition `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores through a rectangle -/

section Memory

variable (c : Dev nD) {α : Type} {Q : α → sProp (MT nD τ sig Unit (Elt F) ℕ UU ℕ)} {s : Shape} {e : EltTy}

/-- A load through a rectangle that the device holds at `X`, at any share, reads `X`. -/
theorem run_load {M : Memref sig .tc .vmem s e} {r : Rect s} (hr : ∀ a, r.stride a = 1) {hl : M.view.LoadsAt r.toLoadRect}
    {q : PosShare TreeShare} {X : r.shape.Idx → Elt F e} {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X -∗ run c (k X) Q) -∗ run c (.op (.load M r.toLoadRect hl) k) Q) := by
  unfold owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f
  isplitr; · ipureintro; exact hf
  iexact H

/-- A store through a rectangle that the device holds leaves it at the stored value. -/
theorem run_store {M : Memref sig .tc .vmem s e} {r : Rect s} (hr : ∀ a, r.stride a = 1) {w : r.shape.Idx → Elt F e}
    {hx : (M.access r).Stores Finset.univ} {hm : (Finset.univ : Finset r.shape.Idx) = Finset.univ ∨ ∀ a, r.stride a = 1}
    {X : r.shape.Idx → Elt F e} {k : PUnit → Prog (TpuEff nD τ sig (Elt F) Λ₀ .tc) α} :
    (owns (c : Thread nD τ) (M.slice r hr) fullShare X : sProp 𝕄)
      ⊢ iprop((owns (c : Thread nD τ) (M.slice r hr) fullShare w -∗ run c (k ⟨⟩) Q) -∗ run c (.op (.store M r w Finset.univ hx hm) k) Q) := by
  unfold owns
  iintro ⟨%f, %hf, H⟩ Hk
  iapply (wp_store 𝒱₀ (c : Thread nD τ) none Set.univ (m := M) (r := r) (Mk := Finset.univ) (hx := hx) (hm := hm)
    (S := (M.access r).set) (by rw [View.setOn_univ])) $$ H
  iintro H
  iapply Hk
  iexists (M.access r).write (Elt F) f w Finset.univ
  isplitr
  · ipureintro; exact View.read_write_univ (v := M.access r) f w
  iexact H

end Memory

/-! ## The shared record of the cells -/

section Exchange

variable (pt : Dev nD → Fin 6 → Vec F S1x64x512 .bf16) (rd : Dev nD → Fin 2 → Vec F S1x64x512 .bf16)

/-- A cell's invariant, under some name, and that its round 0 is reached. -/
def cellOk (g : GSem nD τ sig) : sProp 𝕄 := iprop((∃ κ, cellInv ER (moeRd pt rd) κ g) ∗ reached ER g 0)

instance cellOk_persistent (g : GSem nD τ sig) : BI.Persistent (cellOk pt rd g) := by unfold cellOk; infer_instance

/-- The kernel's semaphores: its own 24, then the barrier. -/
def csem (i : Fin 25) : SemLoc sig := if h : i.val < 24 then .dma (⟨6 + i.val, by omega⟩ : Fin 30) else .reg barS
abbrev kcell (x : Dev nD × Fin 25) : GSem nD τ sig := ((x.1 : Thread nD τ), csem x.2)

/-- The places of the cells in that list. -/
def sendIx (p : Fin 2) (s : Fin 6) : Fin 25 := ⟨12 * p.val + s.val, by omega⟩
def recvIx (p : Fin 2) (s : Fin 6) : Fin 25 := ⟨6 + 12 * p.val + s.val, by omega⟩
def barIx : Fin 25 := 24

theorem csem_send (p : Fin 2) (s : Fin 6) : csem (sendIx p s) = .dma (sendS p s) := by revert p s; decide
theorem csem_recv (p : Fin 2) (s : Fin 6) : csem (recvIx p s) = .dma (recvS p s) := by revert p s; decide
theorem csem_bar : csem barIx = .reg barS := rfl

/-- What every device knows: all cells of all devices, and the levels. -/
def ctx : sProp 𝕄 := iprop((bigSep Finset.univ fun x : Dev nD × Fin 25 => cellOk pt rd (kcell x)) ∗ levAts L lv)

instance ctx_persistent : BI.Persistent (ctx pt rd) := by unfold ctx; infer_instance

theorem ctx_levels : ctx pt rd ⊢ (levAts L lv : sProp 𝕄) := by unfold ctx; iintro ⟨-, H⟩; iexact H
theorem ctx_cell (x : Dev nD × Fin 25) : ctx pt rd ⊢ cellOk pt rd (kcell x) := by
  unfold ctx
  iintro ⟨H, -⟩
  ihave H' := (show (bigSep Finset.univ fun x : Dev nD × Fin 25 => cellOk pt rd (kcell x)) ⊢ cellOk pt rd (kcell x) from
    bigSep_elim (Finset.mem_univ x)) $$ H
  iexact H'
theorem ctx_send (p : Fin 2) (s : Fin 6) (c : Dev nD) : ctx pt rd ⊢ cellOk pt rd (sendCell p s c) := by
  have h := ctx_cell pt rd (c, sendIx p s)
  rwa [show kcell (c, sendIx p s) = sendCell p s c from Prod.ext rfl (csem_send p s)] at h
theorem ctx_recv (p : Fin 2) (s : Fin 6) (c : Dev nD) : ctx pt rd ⊢ cellOk pt rd (recvCell p s c) := by
  have h := ctx_cell pt rd (c, recvIx p s)
  rwa [show kcell (c, recvIx p s) = recvCell p s c from Prod.ext rfl (csem_recv p s)] at h
theorem ctx_bar (c : Dev nD) : ctx pt rd ⊢ cellOk pt rd (barCell c) := ctx_cell pt rd (c, barIx)

/-- What the core owes, whatever waits it has on record. -/
def owesL (c : Dev nD) (l : List (GSem nD τ sig × ℕ)) : sProp 𝕄 := iprop(∃ W, owes (c : Thread nD τ) (due l) W)

variable {pt rd} {c : Dev nD} {α : Type} {Q : α → sProp (MT nD τ sig Unit (Elt F) ℕ UU ℕ)}

/-! ## The barrier -/

/-- The landing slots of device `c` for hop `j + 1`, at any contents. -/
def landing (c : Dev nD) (j : Fin 3) : sProp 𝕄 :=
  iprop((∃ X, slotAt (F := F) rsM c ⟨2 * j.val, by omega⟩ X) ∗ (∃ X, slotAt (F := F) rsM c ⟨2 * j.val + 1, by omega⟩ X)
    ∗ (∃ X, slotAt (F := F) agM c ⟨2 * j.val, by omega⟩ X) ∗ (∃ X, slotAt (F := F) agM c ⟨2 * j.val + 1, by omega⟩ X))

theorem barPay_eq (c : Dev nD) (j : Fin 3) : barPay (F := F) c j = landing (up (j.val + 1) c) j := rfl
theorem rest_landing (pt : Dev nD → Fin 6 → Vec F S1x64x512 .bf16) (rd : Dev nD → Fin 2 → Vec F S1x64x512 .bf16) (c : Dev nD) :
    bigSep ((moeRd pt rd).duties (barCell c) 0 \ ∅) (fun d => (moeRd pt rd).payload (barCell c) 0 d)
      = iprop(landing (F := F) (up 1 c) 0 ∗ landing (F := F) (up 2 c) 1 ∗ landing (F := F) (up 3 c) 2) := (rest_bar pt rd c).trans rfl
theorem up_back (j : Fin 3) (c : Dev nD) : up (j.val + 1) (up (3 - j.val) c) = c := by revert j c; decide

/-- The signal that pays duty `j` of the barrier of the device `3 - j` places on, and hands over the landing slots. -/
theorem run_signal (j : Fin 3) {n : Dev nD} (hn : n = up (3 - j.val) c) {l : List (GSem nD τ sig × ℕ)} {a : ℤ} (ha : a = 1)
    {k : PUnit → Prog (TpuEff nD τ sig (Elt F) Λ₀ .tc) α} :
    iprop(ctx pt rd ∗ owesL (F := F) c ((barCell (up (3 - j.val) c), 1) :: l) ∗ dutyTok ER (barCell (up (3 - j.val) c)) 0 j ∗ landing (F := F) c j)
      ⊢ iprop((owesL (F := F) c l -∗ run c (k ⟨⟩) Q) -∗ run c (.op (.semSignal (n, .tc) barS a) k) Q) := by
  subst hn; subst ha
  unfold owesL
  iintro ⟨#Hc, ⟨%W, Ho⟩, Ht, Hl⟩ Hk
  ihave Hb := (ctx_bar pt rd (up (3 - j.val) c)) $$ Hc
  unfold cellOk
  icases Hb with ⟨⟨%κ, #HI⟩, #Hr⟩
  iapply (Rounds.wp_signal 𝒱₀ ER (moeRd pt rd) (c : Thread nD τ) none (dst := (up (3 - j.val) c : Thread nD τ)) (κ := κ) (r := 0)
      (d := j) (k' := 1) (by rw [duties_bar]; exact Finset.mem_univ _) rfl () (due l) rfl) $$ [Ho Ht Hl]
  · isplitr; · iexact HI
    isplitl [Ho]; · iexact Ho
    isplitl [Ht]; · iexact Ht
    isplitl [Hl]
    · rw [payload_bar, barPay_eq, up_back]; iexact Hl
    iexact Hr
  iintro Ho
  iapply Hk
  iexists W; iexact Ho

/-- The wait on the own barrier: the landing slots of the three other devices, and the closed counter. -/
theorem run_barrier {l : List (GSem nD τ sig × ℕ)} (hl : ∀ x ∈ l, x.1.1.2 = .tc ∧ 1 < lv x.1 ()) {a : ℕ} (ha : a = 3)
    {k : PUnit → Prog (TpuEff nD τ sig (Elt F) Λ₀ .tc) α} :
    iprop(ctx pt rd ∗ owesL (F := F) c l ∗ cred (tallyAt (barCell c) () 3) ∗ atPos ER (barCell c) 0 ∅ 0)
      ⊢ iprop((iprop(owesL (F := F) c l ∗ semVal (barCell c) 0 ∗ landing (F := F) (up 1 c) 0 ∗ landing (F := F) (up 2 c) 1 ∗ landing (F := F) (up 3 c) 2)
          -∗ run c (k ⟨⟩) Q) -∗ run c (.op (.semWait barS a) k) Q) := by
  subst ha
  unfold owesL
  iintro ⟨#Hc, ⟨%W, Ho⟩, Hcr, Hat⟩ Hk
  ihave Hb := (ctx_bar pt rd c) $$ Hc
  ihave Hlev := (ctx_levels pt rd) $$ Hc
  unfold cellOk
  icases Hb with ⟨⟨%κ, #HI⟩, #Hr⟩
  iapply (Rounds.wp_wait_rest_token 𝒱₀ ER (moeRd pt rd) (c : Thread nD τ) none (κ := κ)
      (wpE_semWait_eq 𝒱₀ (c : Thread nD τ) none Set.univ) (Set.mem_univ _) () (O := due l) (W := W) (R := 0) (m := 0) (T := ∅)
      (by rw [expect_bar])) $$ [Hcr Ho Hat Hlev]
  · isplitr; · iexact HI
    isplitl [Hcr]; · iexact Hcr
    isplitl [Ho]; · iexact Ho
    isplitl [Hlev]; · iapply (mayWait_due c (.reg barS) l (fun x hx => ⟨(hl x hx).1, by rw [lv_bar]; exact (hl x hx).2⟩)); iexact Hlev
    iexact Hat
  iintro ⟨Ho, Hat, -, Hp⟩
  imod (Rounds.cell_close ER (moeRd pt rd) (Set.mem_univ κ) (fun h => h) (R := 0 + 1) (duties_later pt rd (barCell c))) $$ [Hat] with Hz
  · isplitr; · iexact HI
    iexact Hat
  ihave Hp' := (Entails.of_eq (rest_landing pt rd c)) $$ Hp
  icases Hp' with ⟨H0, H1, H2⟩
  iapply Hk
  isplitl [Ho]; · iexists _; iexact Ho
  isplitl [Hz]; · iexact Hz
  isplitl [H0]; · iexact H0
  isplitl [H1]; · iexact H1
  iexact H2

/-! ## A wait for a copy -/

/-- The wait for the own copy of slot `s` in phase `p` to be sent: the source comes back, and the counter is closed. -/
theorem run_wait_send (p : Fin 2) (s : Fin 6) {l : List (GSem nD τ sig × ℕ)} (hl : ∀ x ∈ l, x.1.1.2 = .tc ∧ 0 < lv x.1 ())
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (.dma (sendS p s)) N K)
    {k : PUnit → Prog (TpuEff nD τ sig (Elt F) Λ₀ .tc) α} :
    iprop(ctx pt rd ∗ owesL (F := F) c l ∗ cred (tallyAt (sendCell p s c) () N) ∗ atPos ER (sendCell p s c) 0 ∅ 0)
      ⊢ iprop((iprop(owesL (F := F) c l ∗ semVal (sendCell p s c) 0 ∗ sendPay pt rd p s c) -∗ run c (k ⟨⟩) Q) -∗ run c (.op w k) Q) := by
  unfold owesL
  iintro ⟨#Hc, ⟨%W, Ho⟩, Hcr, Hat⟩ Hk
  ihave Hb := (ctx_send pt rd p s c) $$ Hc
  ihave Hlev := (ctx_levels pt rd) $$ Hc
  unfold cellOk
  icases Hb with ⟨⟨%κ, #HI⟩, #Hr⟩
  iapply (Rounds.wp_wait_rest_token 𝒱₀ ER (moeRd pt rd) (c : Thread nD τ) none (κ := κ)
      hw (Set.mem_univ _) () (O := due l) (W := W) (R := 0) (m := 0) (T := ∅)
      (by rw [expect_send, Nat.zero_add])) $$ [Hcr Ho Hat Hlev]
  · isplitr; · iexact HI
    isplitl [Hcr]; · iexact Hcr
    isplitl [Ho]; · iexact Ho
    isplitl [Hlev]; · iapply (mayWait_due c (.dma (sendS p s)) l (fun x hx => ⟨(hl x hx).1, by rw [lv_send]; exact (hl x hx).2⟩)); iexact Hlev
    iexact Hat
  iintro ⟨Ho, Hat, -, Hp⟩
  imod (Rounds.cell_close ER (moeRd pt rd) (Set.mem_univ κ) (fun h => h) (R := 0 + 1) (duties_later pt rd (sendCell p s c))) $$ [Hat] with Hz
  · isplitr; · iexact HI
    iexact Hat
  ihave Hp' := (Entails.of_eq (rest_send pt rd c p s)) $$ Hp
  iapply Hk
  isplitl [Ho]; · iexists _; iexact Ho
  isplitl [Hz]; · iexact Hz
  iexact Hp'

/-- The wait for the copy into slot `s` in phase `p`: the landing slot comes with the sender's contents, and the counter
    is closed. -/
theorem run_wait_recv (p : Fin 2) (s : Fin 6) {l : List (GSem nD τ sig × ℕ)} (hl : ∀ x ∈ l, x.1.1.2 = .tc ∧ 2 + p.val < lv x.1 ())
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (.dma (recvS p s)) N K)
    {k : PUnit → Prog (TpuEff nD τ sig (Elt F) Λ₀ .tc) α} :
    iprop(ctx pt rd ∗ owesL (F := F) c l ∗ cred (tallyAt (recvCell p s c) () N) ∗ atPos ER (recvCell p s c) 0 ∅ 0)
      ⊢ iprop((iprop(owesL (F := F) c l ∗ semVal (recvCell p s c) 0 ∗ recvPay pt rd p s c) -∗ run c (k ⟨⟩) Q) -∗ run c (.op w k) Q) := by
  unfold owesL
  iintro ⟨#Hc, ⟨%W, Ho⟩, Hcr, Hat⟩ Hk
  ihave Hb := (ctx_recv pt rd p s c) $$ Hc
  ihave Hlev := (ctx_levels pt rd) $$ Hc
  unfold cellOk
  icases Hb with ⟨⟨%κ, #HI⟩, #Hr⟩
  iapply (Rounds.wp_wait_rest_token 𝒱₀ ER (moeRd pt rd) (c : Thread nD τ) none (κ := κ)
      hw (Set.mem_univ _) () (O := due l) (W := W) (R := 0) (m := 0) (T := ∅)
      (by rw [expect_recv, Nat.zero_add])) $$ [Hcr Ho Hat Hlev]
  · isplitr; · iexact HI
    isplitl [Hcr]; · iexact Hcr
    isplitl [Ho]; · iexact Ho
    isplitl [Hlev]; · iapply (mayWait_due c (.dma (recvS p s)) l (fun x hx => ⟨(hl x hx).1, by rw [lv_recv]; exact (hl x hx).2⟩)); iexact Hlev
    iexact Hat
  iintro ⟨Ho, Hat, -, Hp⟩
  imod (Rounds.cell_close ER (moeRd pt rd) (Set.mem_univ κ) (fun h => h) (R := 0 + 1) (duties_later pt rd (recvCell p s c))) $$ [Hat] with Hz
  · isplitr; · iexact HI
    iexact Hat
  ihave Hp' := (Entails.of_eq (rest_recv pt rd c p s)) $$ Hp
  iapply Hk
  isplitl [Ho]; · iexists _; iexact Ho
  isplitl [Hz]; · iexact Hz
  iexact Hp'

/-! ## A copy -/

/-- A slot written with what another slot reads, both without their axis of size one, reads what that slot reads. -/
theorem read_copied (M M' : Memref sig .tc .vmem S1x64x512 .bf16) (f : M.view.ty.Contents (Elt F)) (g : M'.view.ty.Contents (Elt F)) :
    M'.view.read (Elt F) ((sq M').view.write (Elt F) g ((sq M).view.read (Elt F) f) Finset.univ) = M.view.read (Elt F) f := by
  funext x
  obtain ⟨y, rfl⟩ := (Shape.reshapeEquiv (squeezes_S1x64x512_S64x512).numel_eq).surjective x
  exact View.read_write_reshape M'.view _ g _ y

/-- The copy of slot `s` in phase `p`, from a source held at the share that its send cell gives back. -/
theorem run_send (p : Fin 2) (s : Fin 6) {M M' : Memref sig .tc .vmem S1x64x512 .bf16} {q : PosShare TreeShare} {X : Vec F S1x64x512 .bf16}
    (hsend : owns (c : Thread nD τ) M q X ⊢ sendPay pt rd p s c)
    (hrecv : owns (dst s c : Thread nD τ) M' fullShare X ⊢ recvPay pt rd p s (dst s c))
    {l : List (GSem nD τ sig × ℕ)} {n : Dev nD} (hn : n = dst s c) {sM dM : Memref sig .tc .vmem S64x512 .bf16} (hs : sM = sq M) (hd : dM = sq M')
    {sS rS : DmaSem sig} (hsS : sS = sendS p s) (hrS : rS = recvS p s) (hN : dM.view.amount (.dma rS) = N)
    {hsc : (dM : Memref sig (Dev.tc n : Thread nD τ).2.kind .vmem S64x512 .bf16).view.ref.isScScratch = false}
    {hsrc : sM.view.WordExact} {hdst : (dM : Memref sig (Dev.tc n : Thread nD τ).2.kind .vmem S64x512 .bf16).view.WordExact}
    {hsem : DmaTarget.Typed .vmem (.dma rS) (.remote (Dev.tc n : Thread nD τ) (dM : Memref sig (Dev.tc n : Thread nD τ).2.kind .vmem S64x512 .bf16) (.dma sS) hsc)}
    {k : PUnit → Prog (TpuEff nD τ sig (Elt F) Λ₀ .tc) α} :
    iprop(ctx pt rd ∗ owesL (F := F) c ((recvCell p s (dst s c), N) :: l) ∗ owns (c : Thread nD τ) M q X ∗ (∃ Y, owns (dst s c : Thread nD τ) M' fullShare Y)
        ∗ dutyTok ER (sendCell p s c) 0 0 ∗ dutyTok ER (recvCell p s (dst s c)) 0 0)
      ⊢ iprop((iprop(owesL (F := F) c l ∗ cred (tallyAt (sendCell p s c) () N)) -∗ run c (k ⟨⟩) Q)
          -∗ run c (.op (.enqueueDma sM (.remote (Dev.tc n : Thread nD τ) dM (.dma sS) hsc) (.dma rS) hsrc hdst hsem) k) Q) := by
  subst hn; subst hsS; subst hrS; subst hs; subst hd
  unfold owesL
  iintro ⟨#Hc, ⟨%W, Ho⟩, Hs, ⟨%Y, Hd⟩, Ht, Ht'⟩ Hk
  ihave Hb := (ctx_send pt rd p s c) $$ Hc
  ihave Hb' := (ctx_recv pt rd p s (dst s c)) $$ Hc
  unfold cellOk
  icases Hb with ⟨⟨%κ, #HI⟩, #Hr⟩
  icases Hb' with ⟨⟨%κ', #HI'⟩, #Hr'⟩
  unfold owns
  icases Hs with ⟨%f, %hf, Hs⟩
  icases Hd with ⟨%g, -, Hd⟩
  have e : (sq M).view.set = M.view.set := View.set_reshape _ _
  have e' : (sq M').view.set = M'.view.set := View.set_reshape _ _
  iapply (Rounds.wp_send_pointsTo 𝒱₀ ER (moeRd pt rd) (c : Thread nD τ) none (c' := (dst s c : Thread nD τ)) (src := sq M)
    (dst := (sq M' : Memref sig (Dev.tc (dst s c) : Thread nD τ).2.kind .vmem S64x512 .bf16)) (q := q) (fs := f) (κ₁ := κ) (κ₂ := κ')
    (r₁ := 0) (r₂ := 0) (d₁ := 0) (d₂ := 0) (fd := g)
    (by rw [duties_send]; exact Finset.mem_singleton_self _) (by rw [duties_recv]; exact Finset.mem_singleton_self _)
    () () N hN rfl rfl (due l) rfl (W := W)
    (by
      rw [payload_send, e]
      refine BIBase.Entails.trans ?_ hsend
      unfold owns
      iintro H
      iexists f
      isplitr; · ipureintro; exact hf
      iexact H)
    (by
      rw [payload_recv, e']
      refine BIBase.Entails.trans ?_ hrecv
      unfold owns
      iintro H
      iexists (sq M').view.write (Elt F) g ((sq M).view.read (Elt F) f) Finset.univ
      isplitr; · ipureintro; rw [read_copied]; exact hf
      iexact H)) $$ [Ho Hs Hd Ht Ht']
  · isplitr; · iexact HI
    isplitr; · iexact HI'
    isplitl [Hs]; · rw [e]; iexact Hs
    isplitl [Hd]; · rw [e']; iexact Hd
    isplitl [Ho]; · iexact Ho
    isplitl [Ht]; · iexact Ht
    isplitr; · iexact Hr
    isplitl [Ht']; · iexact Ht'
    iexact Hr'
  iintro ⟨Hcr, Ho⟩
  iapply Hk
  isplitl [Ho]; · iexists W; iexact Ho
  iexact Hcr

end Exchange

end Cert.KernelIdeal.Moe

end
-- ==== Proof.KernelIdeal.Pieces.lean ====
/-
# A buffer in pieces

A buffer cut into boxes of one size is the buffer's contents put together from the boxes' contents. The boxes used: the
slots of the exchange buffers, the row blocks of one expert each in the weights' buffer, and the row blocks of half a
chunk each in the output.
-/
module

public import proofs.«01_k».proof.Proof.KernelIdeal.Rules

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a box holds of contents. -/
def cut {s : Shape} {α : Type} (f : s.Idx → α) (r : Rect s) : r.shape.Idx → α := fun j => f (r.emb j)

/-- Boxes of one size that tile a shape. -/
structure Tiling (s : Shape) (T : Type) [Fintype T] [DecidableEq T] where
  off : T → Fin s.rank → ℕ
  size : Fin s.rank → ℕ
  inb : ∀ t a, off t a + size a ≤ s.size a
  apart : ∀ t t', t ≠ t' → ∃ a, off t a + size a ≤ off t' a ∨ off t' a + size a ≤ off t a
  cover : ∀ i : s.Idx, ∃ t, ∀ a, off t a ≤ i a ∧ (i a : ℕ) < off t a + size a

namespace Tiling

variable {s : Shape} {T : Type} [Fintype T] [DecidableEq T] (P : Tiling s T) {α : Type}

abbrev box (t : T) : Rect s := Rect.unit (P.off t) P.size (P.inb t)

theorem disjoint (t t' : T) (h : t ≠ t') : Disjoint (P.box t).set (P.box t').set := by
  obtain ⟨a, ha⟩ := P.apart t t' h
  exact Rect.unit_disjoint a ha

theorem exists_emb (i : s.Idx) : ∃ t, ∃ j : (P.box t).shape.Idx, (P.box t).emb j = i := by
  obtain ⟨t, ht⟩ := P.cover i
  have hi : i ∈ (P.box t).set := Rect.mem_set_unit.mpr ht
  rw [← Rect.map_emb_univ, Finset.mem_map] at hi
  obtain ⟨j, -, e⟩ := hi
  exact ⟨t, j, e⟩

theorem covers : (Finset.univ : Finset T).biUnion (fun t => (P.box t).set) = Finset.univ := by
  refine Finset.eq_univ_of_forall fun i => ?_
  obtain ⟨t, ht⟩ := P.cover i
  exact Finset.mem_biUnion.mpr ⟨t, Finset.mem_univ _, Rect.mem_set_unit.mpr ht⟩

/-- Contents put together from the boxes'. -/
def glue (X : ∀ t, (P.box t).shape.Idx → α) : s.Idx → α := fun i =>
  X (P.exists_emb i).choose (P.exists_emb i).choose_spec.choose

theorem glue_emb (X : ∀ t, (P.box t).shape.Idx → α) (t : T) (j : (P.box t).shape.Idx) : P.glue X ((P.box t).emb j) = X t j := by
  unfold glue
  have e := (P.exists_emb ((P.box t).emb j)).choose_spec.choose_spec
  generalize hj : (P.exists_emb ((P.box t).emb j)).choose_spec.choose = j' at e ⊢
  clear hj
  generalize (P.exists_emb ((P.box t).emb j)).choose = t' at j' e ⊢
  by_cases h : t' = t
  · subst h
    rw [(P.box t').emb.injective e]
  · have hd := P.disjoint t' t h
    have h1 : (P.box t).emb j ∈ (P.box t').set := by
      rw [← e, ← Rect.map_emb_univ]; exact Finset.mem_map_of_mem _ (Finset.mem_univ _)
    have h2 : (P.box t).emb j ∈ (P.box t).set := by
      rw [← Rect.map_emb_univ]; exact Finset.mem_map_of_mem _ (Finset.mem_univ _)
    exact (Finset.disjoint_left.mp hd h1 h2).elim

theorem cut_glue (X : ∀ t, (P.box t).shape.Idx → α) (t : T) : cut (P.glue X) (P.box t) = X t := funext fun j => P.glue_emb X t j

end Tiling

/-- Device `c` holds all of a buffer, at contents `X`. -/
abbrev hold (c : Dev nD) {sp : Space} {s : Shape} {e : EltTy} (M : Memref sig .tc sp s e) (X : s.Idx → Elt F e) : sProp 𝕄 :=
  owns (c : Thread nD τ) M fullShare X

section Split

variable {T : Type} [Fintype T] [DecidableEq T] (c : Dev nD) (b : Ref sig .tc) (P : Tiling b.ty.shape T)

/-- A buffer held is its boxes held, at what they hold of the contents; -/
theorem hold_boxes (X : b.ty.Contents (Elt F)) :
    (hold c (Memref.whole b) X : sProp 𝕄) = bigSep Finset.univ fun t => owns (c : Thread nD τ) ((Memref.whole b).slice (P.box t) (fun _ => rfl)) fullShare (cut X (P.box t)) := by
  have h := pointsTo_rects (Ix := Unit) (Name := ℕ) (U := UU) (Lvl := ℕ) (Val := Elt F) (c : Thread nD τ) (Memref.whole b) fullShare P.box (fun _ _ => rfl) P.disjoint P.covers X
  unfold hold
  have e : (Memref.whole b : Memref sig .tc _ _ _).view.set = Finset.univ := View.set_whole b
  exact (owns_whole (c : Thread nD τ) b fullShare X).trans
    ((congrArg (fun S => (((c : Thread nD τ).loc b) ↦[S]{fullShare} X : sProp 𝕄)) e.symm).trans h)

/-- and boxes held at any contents are the buffer held at those put together. -/
theorem boxes_hold (X : ∀ t, (P.box t).shape.Idx → Elt F b.ty.elt) :
    (bigSep Finset.univ fun t => owns (c : Thread nD τ) ((Memref.whole b).slice (P.box t) (fun _ => rfl)) fullShare (X t))
      = (hold c (Memref.whole b) (P.glue X) : sProp 𝕄) := by
  rw [hold_boxes c b P]
  exact bigSep_congr fun t _ => by rw [P.cut_glue]

end Split

/-! ## The boxes of this kernel -/

/-- The slots of a six-slot buffer, -/
def slots : Tiling S6x64x512 (Fin 6) where
  off s := ![s.val, 0, 0]
  size := S1x64x512.size
  inb := slot_inb
  apart t t' h := ⟨0, by
    have : t.val ≠ t'.val := fun e => h (Fin.ext e)
    show t.val + 1 ≤ t'.val ∨ t'.val + 1 ≤ t.val
    omega⟩
  cover i := ⟨i 0, fun a => by
    match a with
    | ⟨0, _⟩ => exact ⟨le_rfl, Nat.lt_succ_self _⟩
    | ⟨1, _⟩ => exact ⟨Nat.zero_le _, by have := (i 1).isLt; show (i 1).val < 0 + 64; rw [Nat.zero_add]; exact this⟩
    | ⟨2, _⟩ => exact ⟨Nat.zero_le _, by have := (i 2).isLt; show (i 2).val < 0 + 512; rw [Nat.zero_add]; exact this⟩⟩

/-- the halves of the reduced chunk, -/
def halves : Tiling S2x64x512 (Fin 2) where
  off s := ![s.val, 0, 0]
  size := S1x64x512.size
  inb := half_inb
  apart t t' h := ⟨0, by
    have : t.val ≠ t'.val := fun e => h (Fin.ext e)
    show t.val + 1 ≤ t'.val ∨ t'.val + 1 ≤ t.val
    omega⟩
  cover i := ⟨i 0, fun a => by
    match a with
    | ⟨0, _⟩ => exact ⟨le_rfl, Nat.lt_succ_self _⟩
    | ⟨1, _⟩ => exact ⟨Nat.zero_le _, by have := (i 1).isLt; show (i 1).val < 0 + 64; rw [Nat.zero_add]; exact this⟩
    | ⟨2, _⟩ => exact ⟨Nat.zero_le _, by have := (i 2).isLt; show (i 2).val < 0 + 512; rw [Nat.zero_add]; exact this⟩⟩

/-- the rows of each of the four local experts in the weights' buffer, -/
def experts : Tiling S1024x512 (Fin 4) where
  off e := ![256 * e.val, 0]
  size := S256x512.size
  inb := by decide
  apart t t' h := ⟨0, by
    have : t.val ≠ t'.val := fun e => h (Fin.ext e)
    show 256 * t.val + 256 ≤ 256 * t'.val ∨ 256 * t'.val + 256 ≤ 256 * t.val
    omega⟩
  cover i := ⟨⟨(i 0).val / 256, by have : (i 0).val < 1024 := (i 0).isLt; omega⟩, fun a => by
    match a with
    | ⟨0, _⟩ =>
      show 256 * ((i 0).val / 256) ≤ (i 0).val ∧ (i 0).val < 256 * ((i 0).val / 256) + 256
      omega
    | ⟨1, _⟩ => exact ⟨Nat.zero_le _, by have := (i 1).isLt; show (i 1).val < 0 + 512; rw [Nat.zero_add]; exact this⟩⟩

/-- and the rows of each device's half chunks in the output. -/
def blocks : Tiling S512x512 (Dev nD × Fin 2) where
  off t := ![128 * t.1.val + 64 * t.2.val, 0]
  size := S64x512.size
  inb := by decide
  apart t t' h := ⟨0, by
    have : ¬(t.1.val = t'.1.val ∧ t.2.val = t'.2.val) := fun e => h (Prod.ext (Fin.ext e.1) (Fin.ext e.2))
    have h1 := t.2.isLt
    have h2 := t'.2.isLt
    show 128 * t.1.val + 64 * t.2.val + 64 ≤ 128 * t'.1.val + 64 * t'.2.val ∨ 128 * t'.1.val + 64 * t'.2.val + 64 ≤ 128 * t.1.val + 64 * t.2.val
    omega⟩
  cover i := ⟨(⟨(i 0).val / 128, by have : (i 0).val < 512 := (i 0).isLt; show _ < 4; omega⟩, ⟨(i 0).val % 128 / 64, by omega⟩), fun a => by
    match a with
    | ⟨0, _⟩ =>
      show 128 * ((i 0).val / 128) + 64 * ((i 0).val % 128 / 64) ≤ (i 0).val ∧ (i 0).val < 128 * ((i 0).val / 128) + 64 * ((i 0).val % 128 / 64) + 64
      omega
    | ⟨1, _⟩ => exact ⟨Nat.zero_le _, by have := (i 1).isLt; show (i 1).val < 0 + 512; rw [Nat.zero_add]; exact this⟩⟩

/-! ## Loads and stores of buffers held whole, and of boxes -/

section Memory

variable (c : Dev nD) {α : Type} {Q : α → sProp (MT nD τ sig Unit (Elt F) ℕ UU ℕ)}

variable {s : Shape} {e : EltTy} {M : Memref sig .tc .vmem s e}

/-- A load through a box of a buffer held whole reads the box of its contents. -/
theorem read_hold {off off' size : Fin s.rank → ℕ} {inb : ∀ a, off a + size a ≤ s.size a}
    (ho : off = off') (inb' : ∀ a, off' a + size a ≤ s.size a) {X : s.Idx → Elt F e}
    {hl : M.view.LoadsAt (Rect.unit off size inb).toLoadRect}
    {k : ((Rect.unit off size inb).shape.Idx → Elt F e) → Prog (TpuEff nD τ sig (Elt F) Λ₀ .tc) α} :
    (hold c M X : sProp 𝕄)
      ⊢ iprop((hold c M X -∗ run c (k (cut X (Rect.unit off' size inb'))) Q) -∗ run c (.op (.load M (Rect.unit off size inb).toLoadRect hl) k) Q) := by
  subst ho
  unfold hold owns
  iintro ⟨%f, %hf, H⟩ Hk
  iapply (wp_load_rect 𝒱₀ (c : Thread nD τ) none Set.univ (m := M) (r := Rect.unit off size inb) (View.set_slice_subset _ _)) $$ H
  iintro H
  rw [show (M.access (Rect.unit off size inb)).read (Elt F) f = cut X (Rect.unit off size inb) from by rw [← hf]; rfl]
  iapply Hk
  iexists f
  isplitr; · ipureintro; exact hf
  iexact H

theorem cut_all {off : Fin s.rank → ℕ} {inb : ∀ a, off a + s.size a ≤ s.size a} (ho : off = fun _ => 0) {β : Type} (X : s.Idx → β) :
    cut X (Rect.unit off s.size inb) = X := by
  funext j
  unfold cut
  congr 1
  funext a
  refine Fin.ext ?_
  rw [Rect.emb_apply]
  subst ho
  show 0 + 1 * (j a).val = (j a).val
  omega

/-- A load of all of a buffer held whole reads its contents. -/
theorem read_hold_all {off : Fin s.rank → ℕ} {inb : ∀ a, off a + s.size a ≤ s.size a}
    (ho : off = fun _ => 0) {X : s.Idx → Elt F e}
    {hl : M.view.LoadsAt (Rect.unit off s.size inb).toLoadRect}
    {k : (s.Idx → Elt F e) → Prog (TpuEff nD τ sig (Elt F) Λ₀ .tc) α} :
    (hold c M X : sProp 𝕄)
      ⊢ iprop((hold c M X -∗ run c (k X) Q)
          -∗ run c (.op (.load M (Rect.unit off s.size inb).toLoadRect hl) k) Q) := by
  have h := read_hold c (M := M) (Q := Q) (rfl : off = off) inb (X := X) (hl := hl) (k := k)
  rw [cut_all ho] at h
  exact h

/-- A store to all of a buffer held whole leaves it at the stored value. -/
theorem write_hold_all {off : Fin s.rank → ℕ} {inb : ∀ a, off a + s.size a ≤ s.size a}
    (ho : off = fun _ => 0) {X w : s.Idx → Elt F e}
    {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    (hold c M X : sProp 𝕄)
      ⊢ iprop((hold c M w -∗ run c (k ⟨⟩) Q)
          -∗ run c (.op (.store M (Rect.unit off s.size inb) w Finset.univ hx hm) k) Q) := by
  unfold hold owns
  iintro ⟨%f, %hf, H⟩ Hk
  iapply (wp_store 𝒱₀ (c : Thread nD τ) none Set.univ (m := M) (r := Rect.unit off s.size inb) (Mk := Finset.univ)
    (hx := hx) (hm := hm) (S := M.view.set) (by rw [View.setOn_univ]; exact View.set_slice_subset _ _)) $$ H
  iintro H
  iapply Hk
  iexists (M.access (Rect.unit off s.size inb)).write (Elt F) f w Finset.univ
  isplitr
  · ipureintro
    refine (cut_all (inb := inb) ho _).symm.trans ?_
    exact View.read_write_univ (v := M.access (Rect.unit off s.size inb)) f w
  iexact H

variable {off off' size : Fin s.rank → ℕ}
  {inb : ∀ a, off a + size a ≤ s.size a} {inb' : ∀ a, off' a + size a ≤ s.size a}

/-- A load through a box held reads what it holds; -/
theorem read_box (ho : off = off') {hl : M.view.LoadsAt (Rect.unit off size inb).toLoadRect}
    {q : PosShare TreeShare} {X : (Rect.unit off' size inb').shape.Idx → Elt F e}
    {k : ((Rect.unit off size inb).shape.Idx → Elt F e) → Prog (TpuEff nD τ sig (Elt F) Λ₀ .tc) α} :
    (owns (c : Thread nD τ) (M.slice (Rect.unit off' size inb') (fun _ => rfl)) q X : sProp 𝕄)
      ⊢ iprop((owns (c : Thread nD τ) (M.slice (Rect.unit off' size inb') (fun _ => rfl)) q X -∗ run c (k X) Q)
          -∗ run c (.op (.load M (Rect.unit off size inb).toLoadRect hl) k) Q) := by
  subst ho; exact run_load c (fun _ => rfl)

/-- and a store through it leaves it at the stored value. -/
theorem write_box (ho : off = off') {w : (Rect.unit off size inb).shape.Idx → Elt F e}
    {hx : (M.access (Rect.unit off size inb)).Stores Finset.univ}
    {hm : (Finset.univ : Finset (Rect.unit off size inb).shape.Idx) = Finset.univ ∨ ∀ a, (Rect.unit off size inb).stride a = 1}
    {X : (Rect.unit off' size inb').shape.Idx → Elt F e} {k : PUnit → Prog (TpuEff nD τ sig (Elt F) Λ₀ .tc) α} :
    (owns (c : Thread nD τ) (M.slice (Rect.unit off' size inb') (fun _ => rfl)) fullShare X : sProp 𝕄)
      ⊢ iprop((owns (c : Thread nD τ) (M.slice (Rect.unit off' size inb') (fun _ => rfl)) fullShare w -∗ run c (k ⟨⟩) Q)
          -∗ run c (.op (.store M (Rect.unit off size inb) w Finset.univ hx hm) k) Q) := by
  subst ho; exact run_store c (fun _ => rfl)

end Memory

end Cert.KernelIdeal.Moe

end
-- ==== Proof.KernelIdeal.Contents.lean ====
/-
# What each device computes

The contents of every buffer of the exchange, as functions of the arguments that the devices were given. Device `c`
computes one row chunk for each device: chunk `k` belongs to the device `k` places on, and chunk 0 is its own. The
kernel names the same computation anew for every chunk; here it has one name, and the lemmas at the end say so.
-/
module

public import proofs.«01_k».proof.Proof.KernelIdeal.Pieces

@[expose] public section

noncomputable section

namespace Cert.KernelIdeal.Moe

open Cert.KernelIdeal Cert.KernelIdeal.Gen

open Idealize.ShloMosaic
open Idealize.ShloMosaic.TcCoe

variable {F : FTy → Type} [FloatOps F]

/-- The arguments as the devices hold them: tokens, router, routes, the own experts, the shared expert. -/
structure Ins (F : FTy → Type) where
  x : Dev nD → Vec F S512x256 .f32
  rw : Dev nD → Vec F S256x16 .f32
  ix : Dev nD → Vec F S512x1 .i32
  ew : Dev nD → Vec F S4x256x512 .f32
  sw : Dev nD → Vec F S256x512 .f32

/-- The device's place, as the kernel computes it. -/
def my (c : Dev nD) : BitVec 32 := Scalar.remsi (Scalar.divsi (Dev.word c) 1#32) 4#32

/-- The row chunk of the device `k` places on, and one local expert's weights, as boxes. -/
def rowOff (c : Dev nD) (k : Fin 4) : Fin 2 → ℕ := ![128 * ((c.val + k.val) % 4), 0]
theorem rowOff_x (c : Dev nD) (k : Fin 4) : ∀ a, rowOff c k a + S128x256.size a ≤ S512x256.size a := by revert c k; decide
theorem rowOff_i (c : Dev nD) (k : Fin 4) : ∀ a, rowOff c k a + S128x1.size a ≤ S512x1.size a := by revert c k; decide
theorem ewOff_inb (e : Fin 4) : ∀ a, (![e.val, 0, 0] : Fin 3 → ℕ) a + S1x256x512.size a ≤ S4x256x512.size a := by revert e; decide
abbrev xBox (c : Dev nD) (k : Fin 4) : Rect S512x256 := Rect.unit (s := S512x256) (rowOff c k) S128x256.size (rowOff_x c k)
abbrev iBox (c : Dev nD) (k : Fin 4) : Rect S512x1 := Rect.unit (s := S512x1) (rowOff c k) S128x1.size (rowOff_i c k)
abbrev ewBox (e : Fin 4) : Rect S4x256x512 := Rect.unit (s := S4x256x512) ![e.val, 0, 0] S1x256x512.size (ewOff_inb e)

/-- One row chunk's part from the device at place `v`: the chunk's tokens, routes and gates, and the own experts' weights. -/
def chunk (v : BitVec 32) (X : Vec F S128x256 .f32) (I : Vec F S128x1 .i32) (G : Vec F S128x1 .f32) (W : Vec F S1024x512 .bf16) :
    FVec F S128x512 .f32 :=
  k0_pay14 v (k0_pay10 X) (k0_pay11 I) G (k0_pay12 v X I G) (k0_pay13 v X I G) W

/-- The upper and the lower half of a chunk, as a slot holds them. -/
def upperHalf (A : FVec F S128x512 .f32) : Vec F S1x64x512 .bf16 :=
  shapeCast S1x64x512 (truncf .bf16 (extractStridedSlice S64x512 ![0, 0] A slices_S128x512_o0_0_S64x512 : FVec F S64x512 .f32) bitsLt_bf16_f32 : FVec F S64x512 .bf16)
    shapeCasts_S64x512_S1x64x512
def lowerHalf (A : FVec F S128x512 .f32) : Vec F S1x64x512 .bf16 := k0_pay16 A

namespace Ins

variable (A : Ins F) (c : Dev nD)

/-- Every token's gate: the routing weight of its expert. -/
def gate : Vec F S512x1 .f32 := k0_pay9 (k0_pay8 (A.x c) (A.rw c)) (iota .tc S512x16 32 [1] iota_S512x16_d1_w32) (A.ix c)
/-- The own experts' weights, one under the other. -/
def ewb : Vec F S1024x512 .bf16 := experts.glue fun e => k0_pay2 (cut (A.ew c) (ewBox e))
def swb : Vec F S256x512 .bf16 := k0_pay6 (A.sw c)
/-- The part of the own experts in the chunk of the device `k` places on. -/
def part (k : Fin 4) : FVec F S128x512 .f32 :=
  chunk (my c) (cut (A.x c) (xBox c k)) (cut (A.ix c) (iBox c k)) (cut (A.gate c) (iBox c k)) (A.ewb c)
/-- What slot `s` carries in the reduce-scatter. -/
def pt (s : Fin 6) : Vec F S1x64x512 .bf16 :=
  if s.val % 2 = 0 then upperHalf (A.part c ⟨s.val / 2 + 1, by omega⟩) else lowerHalf (A.part c ⟨s.val / 2 + 1, by omega⟩)
/-- The halves of the reduced chunk: the own part and the three received. -/
def rd (h : Fin 2) : Vec F S1x64x512 .bf16 :=
  if h = 0 then k0_pay37 (A.part c 0) (A.pt (src 0 c) 0) (A.pt (src 2 c) 2) (A.pt (src 4 c) 4)
  else k0_pay39 (k0_pay38 (A.part c 0) (A.pt (src 1 c) 1) (A.pt (src 3 c) 3)) (A.pt (src 5 c) 5)
/-- The shared expert's part of the output. -/
def base : Vec F S512x512 .f32 := k0_pay40 (k0_pay7 (A.x c)) (A.swb c)
/-- The rows of device `t.1`'s half `t.2` of the output. -/
def outBlock (t : Dev nD × Fin 2) : Vec F S64x512 .f32 := k0_pay41 (cut (A.base c) (blocks.box t)) (A.rd t.1 t.2)
/-- The output. -/
def out : Vec F S512x512 .f32 := blocks.glue (A.outBlock c)

end Ins

/-! ## The kernel's names

The parts of the body name a chunk's computation in pieces, each chunk by its own pieces. -/

namespace Ins

variable (A : Ins F) (c : Dev nD)

/-- The tokens, routes and gates of the chunk of the device `k` places on. -/
abbrev xs (k : Fin 4) : Vec F S128x256 .f32 := cut (A.x c) (xBox c k)
abbrev is (k : Fin 4) : Vec F S128x1 .i32 := cut (A.ix c) (iBox c k)
abbrev gs (k : Fin 4) : Vec F S128x1 .f32 := cut (A.gate c) (iBox c k)

theorem pay14_part : k0_pay14 (my c) (k0_pay10 (A.xs c 2)) (k0_pay11 (A.is c 2)) (A.gs c 2) (k0_pay12 (my c) (A.xs c 2) (A.is c 2) (A.gs c 2))
    (k0_pay13 (my c) (A.xs c 2) (A.is c 2) (A.gs c 2)) (A.ewb c) = A.part c 2 := rfl
theorem pay15_pt : k0_pay15 (my c) (k0_pay10 (A.xs c 2)) (k0_pay11 (A.is c 2)) (A.gs c 2) (k0_pay12 (my c) (A.xs c 2) (A.is c 2) (A.gs c 2))
    (k0_pay13 (my c) (A.xs c 2) (A.is c 2) (A.gs c 2)) (A.ewb c) = A.pt c 2 := rfl
theorem pay16_pt : k0_pay16 (A.part c 2) = A.pt c 3 := rfl
theorem pay20_part : k0_pay20 (my c) (k0_pay17 (A.xs c 1)) (k0_pay18 (A.is c 1)) (A.gs c 1) (k0_pay19 (my c)) (A.ewb c) = A.part c 1 := rfl
theorem pay21_pt : k0_pay21 (my c) (k0_pay17 (A.xs c 1)) (k0_pay18 (A.is c 1)) (A.gs c 1) (k0_pay19 (my c)) (A.ewb c) = A.pt c 0 := rfl
theorem pay22_pt : k0_pay22 (A.part c 1) = A.pt c 1 := rfl
theorem pay30_pt : k0_pay30 (k0_pay23 (A.xs c 3)) (k0_pay25 (my c) (A.xs c 3) (A.is c 3) (A.gs c 3)) (k0_pay26 (my c) (A.xs c 3) (A.is c 3) (A.gs c 3))
    (k0_pay27 (my c) (A.xs c 3) (A.is c 3) (A.gs c 3)) (k0_pay28 (my c) (A.is c 3) (A.gs c 3)) (A.ewb c) = A.pt c 4 := rfl
theorem pay31_pt : k0_pay31 (k0_pay23 (A.xs c 3)) (k0_pay25 (my c) (A.xs c 3) (A.is c 3) (A.gs c 3)) (k0_pay26 (my c) (A.xs c 3) (A.is c 3) (A.gs c 3))
    (k0_pay27 (my c) (A.xs c 3) (A.is c 3) (A.gs c 3)) (k0_pay28 (my c) (A.is c 3) (A.gs c 3)) (A.ewb c) = A.pt c 5 := rfl
theorem pay36_part : k0_pay36 (my c) (k0_pay32 (A.xs c 0)) (k0_pay33 (A.is c 0)) (A.gs c 0) (k0_pay34 (my c) (A.xs c 0) (A.is c 0) (A.gs c 0))
    (k0_pay35 (my c) (A.xs c 0) (A.is c 0) (A.gs c 0)) (Scalar.muli (my c) 4#32) 2#32 (A.ewb c) = A.part c 0 := rfl
theorem pay37_rd : k0_pay37 (A.part c 0) (A.pt (src 0 c) 0) (A.pt (src 2 c) 2) (A.pt (src 4 c) 4) = A.rd c 0 := rfl
theorem pay39_rd : k0_pay39 (k0_pay38 (A.part c 0) (A.pt (src 1 c) 1) (A.pt (src 3 c) 3)) (A.pt (src 5 c) 5) = A.rd c 1 := rfl

end Ins

theorem k0_dev1_up (c : Dev nD) : (⟨k0_dev1 c, k0_dev1_lt c⟩ : Dev nD) = up 1 c := Fin.ext (k0_dev1_eq c)
theorem k0_dev2_up (c : Dev nD) : (⟨k0_dev2 c, k0_dev2_lt c⟩ : Dev nD) = up 2 c := Fin.ext (k0_dev2_eq c)
theorem k0_dev3_up (c : Dev nD) : (⟨k0_dev3 c, k0_dev3_lt c⟩ : Dev nD) = up 3 c := Fin.ext (k0_dev3_eq c)

end Cert.KernelIdeal.Moe

end
-- ==== Proof.KernelIdeal.Steps.lean ====
/-
# The exchange's steps with their tickets

What a device holds of the exchange, gathered slot by slot: the ticket to send (the duties that the copy pays and the
own send cell's place), the ticket to have sent (the credit that the copy leaves on the own send cell), and the ticket to
receive. With these, the copies and waits of both phases are stated at the contents that the devices compute.
-/
module

public import proofs.«01_k».proof.Proof.KernelIdeal.Contents
public import Idealize.ShloMosaic.Lib.MemrefSat

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev xM : Memref sig .tc .vmem S512x256 .f32 := Memref.whole cc0_stg0_0
abbrev rwM : Memref sig .tc .vmem S256x16 .f32 := Memref.whole cc0_stg1_0
abbrev ixM : Memref sig .tc .vmem S512x1 .i32 := Memref.whole cc0_stg2_0
abbrev ewM : Memref sig .tc .vmem S4x256x512 .f32 := Memref.whole cc0_stg3_0
abbrev swM : Memref sig .tc .vmem S256x512 .f32 := Memref.whole cc0_stg4_0
abbrev outM : Memref sig .tc .vmem S512x512 .f32 := Memref.whole cc0_stg5_0
abbrev ewbM : Memref sig .tc .vmem S1024x512 .bf16 := Memref.whole cc0_scratch4
abbrev swbM : Memref sig .tc .vmem S256x512 .bf16 := Memref.whole cc0_scratch5
abbrev gateM : Memref sig .tc .vmem S512x1 .f32 := Memref.whole cc0_scratch6

/-- One expert's box of the weights' buffer, and one block of the output, held at contents. -/
abbrev ewbAt (c : Dev nD) (e : Fin 4) (X : Vec F S256x512 .bf16) : sProp 𝕄 :=
  owns (c : Thread nD τ) (ewbM.slice (experts.box e) (fun _ => rfl)) fullShare X
abbrev outAt (c : Dev nD) (t : Dev nD × Fin 2) (X : Vec F S64x512 .f32) : sProp 𝕄 :=
  owns (c : Thread nD τ) (outM.slice (blocks.box t) (fun _ => rfl)) fullShare X

/-- Room at the device that slot `s` is copied to, in each phase. -/
abbrev room0 (s : Fin 6) (c : Dev nD) : sProp 𝕄 := iprop(∃ Y, slotAt (F := F) rsM (dst s c) s Y)
abbrev room1 (s : Fin 6) (c : Dev nD) : sProp 𝕄 := iprop(∃ Y, slotAt (F := F) agM (dst s c) s Y)

/-- What a device owes while copies of the first phase are to come, and after them. -/
abbrev owe0 (l : List (Fin 6)) (c : Dev nD) : sProp 𝕄 := owesL (F := F) c (dueCopies 0 l c ++ dueCopies 1 order1 c)
abbrev owe1 (l : List (Fin 6)) (c : Dev nD) : sProp 𝕄 := owesL (F := F) c (dueCopies 1 l c)

theorem landing_rooms (c : Dev nD) (j : Fin 3) : landing (F := F) (up (j.val + 1) c) j
    ⊢ iprop(room0 (F := F) ⟨2 * j.val, by omega⟩ c ∗ room0 (F := F) ⟨2 * j.val + 1, by omega⟩ c ∗ room1 (F := F) ⟨2 * j.val, by omega⟩ c ∗ room1 (F := F) ⟨2 * j.val + 1, by omega⟩ c) := by
  have e0 : dst ⟨2 * j.val, by omega⟩ c = up (j.val + 1) c := by unfold dst; congr 1; dsimp only; omega
  have e1 : dst ⟨2 * j.val + 1, by omega⟩ c = up (j.val + 1) c := by unfold dst; congr 1; dsimp only; omega
  unfold landing room0 room1
  rw [e0, e1]

/-! ## The tickets -/

/-- The ticket to send slot `s` in phase `p`. -/
def toSend (p : Fin 2) (s : Fin 6) (c : Dev nD) : sProp 𝕄 :=
  iprop(dutyTok ER (sendCell p s c) 0 0 ∗ dutyTok ER (recvCell p s (dst s c)) 0 0 ∗ atPos ER (sendCell p s c) 0 ∅ 0)
/-- It is sent, and the send is not waited for yet. -/
def inFlight (p : Fin 2) (s : Fin 6) (c : Dev nD) : sProp 𝕄 :=
  iprop(cred (tallyAt (sendCell p s c) () N) ∗ atPos ER (sendCell p s c) 0 ∅ 0)
/-- The ticket to wait for slot `s` in phase `p`. -/
def toRecv (p : Fin 2) (s : Fin 6) (c : Dev nD) : sProp 𝕄 :=
  iprop(cred (tallyAt (recvCell p s c) () N) ∗ atPos ER (recvCell p s c) 0 ∅ 0)

variable (A : Ins F) (c : Dev nD)

/-- The shared record, at the contents that the devices compute from their arguments. -/
abbrev know : sProp 𝕄 := ctx A.pt A.rd

variable {A c} {α : Type} {Q : α → sProp (MT nD τ sig Unit (Elt F) ℕ UU ℕ)}

/-- The copy of slot `s` in the reduce-scatter. -/
theorem copy_part (s : Fin 6) {l : List (GSem nD τ sig × ℕ)} {n : Dev nD} (hn : n = dst s c) {sM dM : Memref sig .tc .vmem S64x512 .bf16}
    (hs : sM = sq (slotM partM s)) (hd : dM = sq (slotM rsM s))
    {sS rS : DmaSem sig} (hsS : sS = sendS 0 s) (hrS : rS = recvS 0 s) (hN : dM.view.amount (.dma rS) = N)
    {hsc : (dM : Memref sig (Dev.tc n : Thread nD τ).2.kind .vmem S64x512 .bf16).view.ref.isScScratch = false}
    {hsrc : sM.view.WordExact} {hdst : (dM : Memref sig (Dev.tc n : Thread nD τ).2.kind .vmem S64x512 .bf16).view.WordExact}
    {hsem : DmaTarget.Typed .vmem (.dma rS) (.remote (Dev.tc n : Thread nD τ) (dM : Memref sig (Dev.tc n : Thread nD τ).2.kind .vmem S64x512 .bf16) (.dma sS) hsc)}
    {k : PUnit → Prog (TpuEff nD τ sig (Elt F) Λ₀ .tc) α} :
    iprop(know A ∗ owesL (F := F) c ((recvCell 0 s (dst s c), N) :: l) ∗ slotAt partM c s (A.pt c s) ∗ (∃ Y, slotAt rsM (dst s c) s Y) ∗ toSend 0 s c)
      ⊢ iprop((iprop(owesL (F := F) c l ∗ inFlight (F := F) 0 s c) -∗ run c (k ⟨⟩) Q)
          -∗ run c (.op (.enqueueDma sM (.remote (Dev.tc n : Thread nD τ) dM (.dma sS) hsc) (.dma rS) hsrc hdst hsem) k) Q) := by
  unfold toSend inFlight slotAt
  iintro ⟨#Hc, Ho, Hs, Hd, Ht, Ht', Hp⟩ Hk
  iapply (run_send (pt := A.pt) (rd := A.rd) 0 s (M := slotM partM s) (M' := slotM rsM s) (q := fullShare) (X := A.pt c s)
    (by unfold sendPay slotAt; rw [if_pos rfl]) (by unfold recvPay slotAt; rw [if_pos rfl, src_dst]) hn hs hd hsS hrS hN) $$ [Ho Hs Hd Ht Ht']
  · isplitr; · iexact Hc
    isplitl [Ho]; · iexact Ho
    isplitl [Hs]; · iexact Hs
    isplitl [Hd]; · iexact Hd
    isplitl [Ht] <;> iassumption
  iintro ⟨Ho, Hcr⟩
  iapply Hk
  isplitl [Ho]; · iexact Ho
  isplitl [Hcr] <;> iassumption

/-- The copy of slot `s` in the all-gather, from the quarter of the reduced half that belongs to its hop. -/
theorem copy_red (s : Fin 6) {l : List (GSem nD τ sig × ℕ)} {n : Dev nD} (hn : n = dst s c) {sM dM : Memref sig .tc .vmem S64x512 .bf16}
    (hs : sM = sq (halfM redM (half s))) (hd : dM = sq (slotM agM s))
    {sS rS : DmaSem sig} (hsS : sS = sendS 1 s) (hrS : rS = recvS 1 s) (hN : dM.view.amount (.dma rS) = N)
    {hsc : (dM : Memref sig (Dev.tc n : Thread nD τ).2.kind .vmem S64x512 .bf16).view.ref.isScScratch = false}
    {hsrc : sM.view.WordExact} {hdst : (dM : Memref sig (Dev.tc n : Thread nD τ).2.kind .vmem S64x512 .bf16).view.WordExact}
    {hsem : DmaTarget.Typed .vmem (.dma rS) (.remote (Dev.tc n : Thread nD τ) (dM : Memref sig (Dev.tc n : Thread nD τ).2.kind .vmem S64x512 .bf16) (.dma sS) hsc)}
    {k : PUnit → Prog (TpuEff nD τ sig (Elt F) Λ₀ .tc) α} :
    iprop(know A ∗ owesL (F := F) c ((recvCell 1 s (dst s c), N) :: l) ∗ redAt c (half s) (quarter (hop s)) (A.rd c (half s))
        ∗ (∃ Y, slotAt agM (dst s c) s Y) ∗ toSend 1 s c)
      ⊢ iprop((iprop(owesL (F := F) c l ∗ inFlight (F := F) 1 s c) -∗ run c (k ⟨⟩) Q)
          -∗ run c (.op (.enqueueDma sM (.remote (Dev.tc n : Thread nD τ) dM (.dma sS) hsc) (.dma rS) hsrc hdst hsem) k) Q) := by
  unfold toSend inFlight slotAt redAt
  iintro ⟨#Hc, Ho, Hs, Hd, Ht, Ht', Hp⟩ Hk
  iapply (run_send (pt := A.pt) (rd := A.rd) 1 s (M := halfM redM (half s)) (M' := slotM agM s) (q := quarter (hop s)) (X := A.rd c (half s))
    (by unfold sendPay redAt; rw [if_neg (by decide)]) (by unfold recvPay slotAt; rw [if_neg (by decide), src_dst]) hn hs hd hsS hrS hN) $$ [Ho Hs Hd Ht Ht']
  · isplitr; · iexact Hc
    isplitl [Ho]; · iexact Ho
    isplitl [Hs]; · iexact Hs
    isplitl [Hd]; · iexact Hd
    isplitl [Ht] <;> iassumption
  iintro ⟨Ho, Hcr⟩
  iapply Hk
  isplitl [Ho]; · iexact Ho
  isplitl [Hcr] <;> iassumption

/-! The waits: on a copy of the own slot, and on the copy into the own slot, in each phase. -/

section Waits

/-- Every copy of a slot counts the same amount. -/
theorem credit_eq (b : Memref sig .tc .vmem S64x512 .bf16) : b.view.dmaCredit = N := rfl

variable (s : Fin 6) {sem : DmaSem sig} {a b : Memref sig .tc .vmem S64x512 .bf16}
  {ha : a.view.WordExact} {hb : b.view.WordExact} {l : List (GSem nD τ sig × ℕ)} {k : PUnit → Prog (TpuEff nD τ sig (Elt F) Λ₀ .tc) α}

theorem sent_part (hsem : sem = sendS 0 s) (hl : ∀ x ∈ l, x.1.1.2 = .tc ∧ 0 < lv x.1 ()) :
    iprop(know A ∗ owesL (F := F) c l ∗ inFlight 0 s c)
      ⊢ iprop((iprop(owesL (F := F) c l ∗ semVal (sendCell 0 s c) 0 ∗ slotAt partM c s (A.pt c s)) -∗ run c (k ⟨⟩) Q)
          -∗ run c (.op (.waitDma2 sem a b ha hb) k) Q) :=
  run_wait_send 0 s hl (by subst hsem; rw [← credit_eq b]; exact wpE_waitDma2_eq 𝒱₀ (c : Thread nD τ) none Set.univ)
theorem landed_part (hsem : sem = recvS 0 s) (hl : ∀ x ∈ l, x.1.1.2 = .tc ∧ 2 < lv x.1 ()) :
    iprop(know A ∗ owesL (F := F) c l ∗ toRecv 0 s c)
      ⊢ iprop((iprop(owesL (F := F) c l ∗ semVal (recvCell 0 s c) 0 ∗ slotAt rsM c s (A.pt (src s c) s)) -∗ run c (k ⟨⟩) Q)
          -∗ run c (.op (.waitDma2 sem a b ha hb) k) Q) :=
  run_wait_recv 0 s hl (by subst hsem; rw [← credit_eq b]; exact wpE_waitDma2_eq 𝒱₀ (c : Thread nD τ) none Set.univ)
theorem sent_red (hsem : sem = sendS 1 s) :
    iprop(know A ∗ owesL (F := F) c [] ∗ inFlight 1 s c)
      ⊢ iprop((iprop(owesL (F := F) c [] ∗ semVal (sendCell 1 s c) 0 ∗ redAt c (half s) (quarter (hop s)) (A.rd c (half s))) -∗ run c (k ⟨⟩) Q)
          -∗ run c (.op (.waitDma2 sem a b ha hb) k) Q) :=
  run_wait_send 1 s (fun _ h => absurd h List.not_mem_nil) (by subst hsem; rw [← credit_eq b]; exact wpE_waitDma2_eq 𝒱₀ (c : Thread nD τ) none Set.univ)
theorem landed_red (hsem : sem = recvS 1 s) :
    iprop(know A ∗ owesL (F := F) c [] ∗ toRecv 1 s c)
      ⊢ iprop((iprop(owesL (F := F) c [] ∗ semVal (recvCell 1 s c) 0 ∗ slotAt agM c s (A.rd (src s c) (half s))) -∗ run c (k ⟨⟩) Q)
          -∗ run c (.op (.waitDma2 sem a b ha hb) k) Q) :=
  run_wait_recv 1 s (fun _ h => absurd h List.not_mem_nil) (by subst hsem; rw [← credit_eq b]; exact wpE_waitDma2_eq 𝒱₀ (c : Thread nD τ) none Set.univ)

end Waits

/-! ## Loads and stores of the boxes -/

/-- An expert's box of the weights' buffer read, -/
theorem read_ewb (e : Fin 4) {off : Fin S1024x512.rank → ℕ} {inb : ∀ a, off a + S256x512.size a ≤ S1024x512.size a} (ho : off = experts.off e)
    {hl : ewbM.view.LoadsAt (Rect.unit off S256x512.size inb).toLoadRect} {X : Vec F S256x512 .bf16}
    {k : (Vec F S256x512 .bf16) → Prog (TpuEff nD τ sig (Elt F) Λ₀ .tc) α} :
    (ewbAt c e X : sProp 𝕄)
      ⊢ iprop((ewbAt c e X -∗ run c (k X) Q) -∗ run c (.op (.load ewbM (Rect.unit off S256x512.size inb).toLoadRect hl) k) Q) := by
  subst ho; exact run_load c (fun _ => rfl)

/-- and written. -/
theorem write_ewb (e : Fin 4) {off : Fin S1024x512.rank → ℕ} {inb : ∀ a, off a + S256x512.size a ≤ S1024x512.size a} (ho : off = experts.off e)
    {X w : Vec F S256x512 .bf16} {hx : (ewbM.access (Rect.unit off S256x512.size inb)).Stores Finset.univ}
    {hm : (Finset.univ : Finset (Rect.unit off S256x512.size inb).shape.Idx) = Finset.univ ∨ ∀ a, (Rect.unit off S256x512.size inb).stride a = 1}
    {k : PUnit → Prog (TpuEff nD τ sig (Elt F) Λ₀ .tc) α} :
    (ewbAt c e X : sProp 𝕄)
      ⊢ iprop((ewbAt c e w -∗ run c (k ⟨⟩) Q) -∗ run c (.op (.store ewbM (Rect.unit off S256x512.size inb) w Finset.univ hx hm) k) Q) := by
  subst ho; exact run_store c (fun _ => rfl)

/-- A block of the output read, -/
theorem read_block (t : Dev nD × Fin 2) {off : Fin S512x512.rank → ℕ} {inb : ∀ a, off a + S64x512.size a ≤ S512x512.size a} (ho : off = blocks.off t)
    {hl : outM.view.LoadsAt (Rect.unit off S64x512.size inb).toLoadRect} {X : Vec F S64x512 .f32}
    {k : (Vec F S64x512 .f32) → Prog (TpuEff nD τ sig (Elt F) Λ₀ .tc) α} :
    (outAt c t X : sProp 𝕄)
      ⊢ iprop((outAt c t X -∗ run c (k X) Q) -∗ run c (.op (.load outM (Rect.unit off S64x512.size inb).toLoadRect hl) k) Q) := by
  subst ho; exact run_load c (fun _ => rfl)

/-- and written. -/
theorem write_block (t : Dev nD × Fin 2) {off : Fin S512x512.rank → ℕ} {inb : ∀ a, off a + S64x512.size a ≤ S512x512.size a} (ho : off = blocks.off t)
    {X w : Vec F S64x512 .f32} {hx : (outM.access (Rect.unit off S64x512.size inb)).Stores Finset.univ}
    {hm : (Finset.univ : Finset (Rect.unit off S64x512.size inb).shape.Idx) = Finset.univ ∨ ∀ a, (Rect.unit off S64x512.size inb).stride a = 1}
    {k : PUnit → Prog (TpuEff nD τ sig (Elt F) Λ₀ .tc) α} :
    (outAt c t X : sProp 𝕄)
      ⊢ iprop((outAt c t w -∗ run c (k ⟨⟩) Q) -∗ run c (.op (.store outM (Rect.unit off S64x512.size inb) w Finset.univ hx hm) k) Q) := by
  subst ho; exact run_store c (fun _ => rfl)

/-- A slot of an exchange buffer read, -/
theorem read_slot (M : Memref sig .tc .vmem S6x64x512 .bf16) (s : Fin 6) {off : Fin S6x64x512.rank → ℕ} {inb : ∀ a, off a + S1x64x512.size a ≤ S6x64x512.size a} (ho : off = ![s.val, 0, 0])
    {hl : M.view.LoadsAt (Rect.unit off S1x64x512.size inb).toLoadRect} {X : Vec F S1x64x512 .bf16}
    {k : (Vec F S1x64x512 .bf16) → Prog (TpuEff nD τ sig (Elt F) Λ₀ .tc) α} :
    (slotAt M c s X : sProp 𝕄)
      ⊢ iprop((slotAt M c s X -∗ run c (k X) Q) -∗ run c (.op (.load M (Rect.unit off S1x64x512.size inb).toLoadRect hl) k) Q) := by
  subst ho; exact run_load c (fun _ => rfl)

/-- and written. -/
theorem write_slot (M : Memref sig .tc .vmem S6x64x512 .bf16) (s : Fin 6) {off : Fin S6x64x512.rank → ℕ} {inb : ∀ a, off a + S1x64x512.size a ≤ S6x64x512.size a} (ho : off = ![s.val, 0, 0])
    {X w : Vec F S1x64x512 .bf16} {hx : (M.access (Rect.unit off S1x64x512.size inb)).Stores Finset.univ}
    {hm : (Finset.univ : Finset (Rect.unit off S1x64x512.size inb).shape.Idx) = Finset.univ ∨ ∀ a, (Rect.unit off S1x64x512.size inb).stride a = 1}
    {k : PUnit → Prog (TpuEff nD τ sig (Elt F) Λ₀ .tc) α} :
    (slotAt M c s X : sProp 𝕄)
      ⊢ iprop((slotAt M c s w -∗ run c (k ⟨⟩) Q) -∗ run c (.op (.store M (Rect.unit off S1x64x512.size inb) w Finset.univ hx hm) k) Q) := by
  subst ho; exact run_store c (fun _ => rfl)

/-- A half of the reduced chunk read, -/
theorem read_half (h : Fin 2) {q : PosShare TreeShare} {off : Fin S2x64x512.rank → ℕ} {inb : ∀ a, off a + S1x64x512.size a ≤ S2x64x512.size a} (ho : off = ![h.val, 0, 0])
    {hl : redM.view.LoadsAt (Rect.unit off S1x64x512.size inb).toLoadRect} {X : Vec F S1x64x512 .bf16}
    {k : (Vec F S1x64x512 .bf16) → Prog (TpuEff nD τ sig (Elt F) Λ₀ .tc) α} :
    (redAt c h q X : sProp 𝕄)
      ⊢ iprop((redAt c h q X -∗ run c (k X) Q) -∗ run c (.op (.load redM (Rect.unit off S1x64x512.size inb).toLoadRect hl) k) Q) := by
  subst ho; exact run_load c (fun _ => rfl)

/-- and written. -/
theorem write_half (h : Fin 2) {off : Fin S2x64x512.rank → ℕ} {inb : ∀ a, off a + S1x64x512.size a ≤ S2x64x512.size a} (ho : off = ![h.val, 0, 0])
    {X w : Vec F S1x64x512 .bf16} {hx : (redM.access (Rect.unit off S1x64x512.size inb)).Stores Finset.univ}
    {hm : (Finset.univ : Finset (Rect.unit off S1x64x512.size inb).shape.Idx) = Finset.univ ∨ ∀ a, (Rect.unit off S1x64x512.size inb).stride a = 1}
    {k : PUnit → Prog (TpuEff nD τ sig (Elt F) Λ₀ .tc) α} :
    (redAt c h fullShare X : sProp 𝕄)
      ⊢ iprop((redAt c h fullShare w -∗ run c (k ⟨⟩) Q) -∗ run c (.op (.store redM (Rect.unit off S1x64x512.size inb) w Finset.univ hx hm) k) Q) := by
  subst ho; exact run_store c (fun _ => rfl)

/-- A slot of the parts' buffer as the kernel fills it: it is loaded first. -/
theorem put_part (s : Fin 6) {off : Fin S6x64x512.rank → ℕ} {inb : ∀ a, off a + S1x64x512.size a ≤ S6x64x512.size a} (ho : off = ![s.val, 0, 0])
    {X w : Vec F S1x64x512 .bf16} (hw : w = A.pt c s)
    {hl : partM.view.LoadsAt (Rect.unit off S1x64x512.size inb).toLoadRect} {hx : (partM.access (Rect.unit off S1x64x512.size inb)).Stores Finset.univ}
    {hm : (Finset.univ : Finset (Rect.unit off S1x64x512.size inb).shape.Idx) = Finset.univ ∨ ∀ a, (Rect.unit off S1x64x512.size inb).stride a = 1}
    {k : PUnit → Prog (TpuEff nD τ sig (Elt F) Λ₀ .tc) α} :
    (slotAt partM c s X : sProp 𝕄)
      ⊢ iprop((slotAt partM c s (A.pt c s) -∗ run c (k ⟨⟩) Q)
          -∗ run c (.op (.load partM (Rect.unit off S1x64x512.size inb).toLoadRect hl) fun _ => .op (.store partM (Rect.unit off S1x64x512.size inb) w Finset.univ hx hm) k) Q) := by
  subst hw
  iintro H Hk
  iapply (read_slot partM s ho) $$ H; iintro H
  iapply (write_slot partM s ho) $$ H; iintro H
  iapply Hk; iexact H

/-- A half of the reduced chunk as the kernel fills it: it is loaded first. -/
theorem put_red (h : Fin 2) {off : Fin S2x64x512.rank → ℕ} {inb : ∀ a, off a + S1x64x512.size a ≤ S2x64x512.size a} (ho : off = ![h.val, 0, 0])
    {X w : Vec F S1x64x512 .bf16} (hw : w = A.rd c h)
    {hl : redM.view.LoadsAt (Rect.unit off S1x64x512.size inb).toLoadRect} {hx : (redM.access (Rect.unit off S1x64x512.size inb)).Stores Finset.univ}
    {hm : (Finset.univ : Finset (Rect.unit off S1x64x512.size inb).shape.Idx) = Finset.univ ∨ ∀ a, (Rect.unit off S1x64x512.size inb).stride a = 1}
    {k : PUnit → Prog (TpuEff nD τ sig (Elt F) Λ₀ .tc) α} :
    (redAt c h fullShare X : sProp 𝕄)
      ⊢ iprop((redAt c h fullShare (A.rd c h) -∗ run c (k ⟨⟩) Q)
          -∗ run c (.op (.load redM (Rect.unit off S1x64x512.size inb).toLoadRect hl) fun _ => .op (.store redM (Rect.unit off S1x64x512.size inb) w Finset.univ hx hm) k) Q) := by
  subst hw
  iintro H Hk
  iapply (read_half h ho) $$ H; iintro H
  iapply (write_half h ho) $$ H; iintro H
  iapply Hk; iexact H

/-- What every chunk's part is computed from, besides the weights: the tokens, the routes and the gates. -/
def feed (A : Ins F) (c : Dev nD) : sProp 𝕄 := iprop(hold c xM (A.x c) ∗ hold c ixM (A.ix c) ∗ hold c gateM (A.gate c))

/-- The loads of one chunk's rows. -/
theorem read_rows (k : Fin 4) {ox : Fin S512x256.rank → ℕ} {oi : Fin S512x1.rank → ℕ}
    {bx : ∀ a, ox a + S128x256.size a ≤ S512x256.size a} {bi : ∀ a, oi a + S128x1.size a ≤ S512x1.size a}
    (hox : ox = rowOff c k) (hoi : oi = rowOff c k)
    {lx : xM.view.LoadsAt (Rect.unit ox S128x256.size bx).toLoadRect} {li : ixM.view.LoadsAt (Rect.unit oi S128x1.size bi).toLoadRect}
    {lg : gateM.view.LoadsAt (Rect.unit oi S128x1.size bi).toLoadRect}
    {K : Vec F S128x256 .f32 → Vec F S128x1 .i32 → Vec F S128x1 .f32 → Prog (TpuEff nD τ sig (Elt F) Λ₀ .tc) α} :
    (feed A c : sProp 𝕄)
      ⊢ iprop((feed A c -∗ run c (K (A.xs c k) (A.is c k) (A.gs c k)) Q)
          -∗ run c (.op (.load xM (Rect.unit ox S128x256.size bx).toLoadRect lx) fun X => .op (.load ixM (Rect.unit oi S128x1.size bi).toLoadRect li) fun I =>
            .op (.load gateM (Rect.unit oi S128x1.size bi).toLoadRect lg) fun G => K X I G) Q) := by
  unfold feed
  iintro ⟨Hx, Hi, Hg⟩ Hk
  iapply (read_hold c hox (rowOff_x c k)) $$ Hx; iintro Hx
  iapply (read_hold c hoi (rowOff_i c k)) $$ Hi; iintro Hi
  iapply (read_hold c hoi (rowOff_i c k)) $$ Hg; iintro Hg
  iapply Hk
  isplitl [Hx]; · iexact Hx
  isplitl [Hi] <;> iassumption

/-- A block of the output increased by the reduced half that belongs there, from the slot it was gathered into, as the
    kernel does it: the block is loaded twice. -/
theorem add_gathered (s : Fin 6) {f : Vec F S64x512 .f32 → Vec F S1x64x512 .bf16 → Vec F S64x512 .f32} (hf : f = k0_pay41)
    {off : Fin S512x512.rank → ℕ} {inb : ∀ a, off a + S64x512.size a ≤ S512x512.size a} (ho : off = blocks.off (src s c, half s))
    {off' : Fin S6x64x512.rank → ℕ} {inb' : ∀ a, off' a + S1x64x512.size a ≤ S6x64x512.size a} (ho' : off' = ![s.val, 0, 0])
    {hl : outM.view.LoadsAt (Rect.unit off S64x512.size inb).toLoadRect} {hl' : agM.view.LoadsAt (Rect.unit off' S1x64x512.size inb').toLoadRect}
    {hx : (outM.access (Rect.unit off S64x512.size inb)).Stores Finset.univ}
    {hm : (Finset.univ : Finset (Rect.unit off S64x512.size inb).shape.Idx) = Finset.univ ∨ ∀ a, (Rect.unit off S64x512.size inb).stride a = 1}
    {k : PUnit → Prog (TpuEff nD τ sig (Elt F) Λ₀ .tc) α} :
    (iprop(outAt c (src s c, half s) (cut (A.base c) (blocks.box (src s c, half s))) ∗ slotAt agM c s (A.rd (src s c) (half s))) : sProp 𝕄)
      ⊢ iprop((iprop(outAt c (src s c, half s) (A.outBlock c (src s c, half s)) ∗ slotAt agM c s (A.rd (src s c) (half s))) -∗ run c (k ⟨⟩) Q)
          -∗ run c (.op (.load outM (Rect.unit off S64x512.size inb).toLoadRect hl) fun v => .op (.load agM (Rect.unit off' S1x64x512.size inb').toLoadRect hl') fun w =>
            .op (.load outM (Rect.unit off S64x512.size inb).toLoadRect hl) fun _ => .op (.store outM (Rect.unit off S64x512.size inb) (f v w) Finset.univ hx hm) k) Q) := by
  subst hf
  iintro ⟨Ho, Hs⟩ Hk
  iapply (read_block (c := c) (src s c, half s) ho (X := cut (A.base c) (blocks.box (src s c, half s)))) $$ Ho; iintro Ho
  iapply (read_slot agM s ho') $$ Hs; iintro Hs
  iapply (read_block (c := c) (src s c, half s) ho (X := cut (A.base c) (blocks.box (src s c, half s)))) $$ Ho; iintro Ho
  iapply (write_block (c := c) (src s c, half s) ho (X := cut (A.base c) (blocks.box (src s c, half s)))) $$ Ho; iintro Ho
  iapply Hk
  isplitl [Ho]; · iexact Ho
  iexact Hs

/-- The own blocks are increased from the reduced chunk itself, of which the last quarter is left. -/
theorem add_own (h : Fin 2) {f : Vec F S64x512 .f32 → Vec F S1x64x512 .bf16 → Vec F S64x512 .f32} (hf : f = k0_pay41)
    {off : Fin S512x512.rank → ℕ} {inb : ∀ a, off a + S64x512.size a ≤ S512x512.size a} (ho : off = blocks.off (c, h))
    {off' : Fin S2x64x512.rank → ℕ} {inb' : ∀ a, off' a + S1x64x512.size a ≤ S2x64x512.size a} (ho' : off' = ![h.val, 0, 0])
    {hl : outM.view.LoadsAt (Rect.unit off S64x512.size inb).toLoadRect} {hl' : redM.view.LoadsAt (Rect.unit off' S1x64x512.size inb').toLoadRect}
    {hx : (outM.access (Rect.unit off S64x512.size inb)).Stores Finset.univ}
    {hm : (Finset.univ : Finset (Rect.unit off S64x512.size inb).shape.Idx) = Finset.univ ∨ ∀ a, (Rect.unit off S64x512.size inb).stride a = 1}
    {k : PUnit → Prog (TpuEff nD τ sig (Elt F) Λ₀ .tc) α} :
    (iprop(outAt c (c, h) (cut (A.base c) (blocks.box (c, h))) ∗ redAt c h lastQuarter (A.rd c h)) : sProp 𝕄)
      ⊢ iprop((iprop(outAt c (c, h) (A.outBlock c (c, h)) ∗ redAt c h lastQuarter (A.rd c h)) -∗ run c (k ⟨⟩) Q)
          -∗ run c (.op (.load outM (Rect.unit off S64x512.size inb).toLoadRect hl) fun v => .op (.load redM (Rect.unit off' S1x64x512.size inb').toLoadRect hl') fun w =>
            .op (.load outM (Rect.unit off S64x512.size inb).toLoadRect hl) fun _ => .op (.store outM (Rect.unit off S64x512.size inb) (f v w) Finset.univ hx hm) k) Q) := by
  subst hf
  iintro ⟨Ho, Hs⟩ Hk
  iapply (read_block (c := c) (c, h) ho (X := cut (A.base c) (blocks.box (c, h)))) $$ Ho; iintro Ho
  iapply (read_half h ho') $$ Hs; iintro Hs
  iapply (read_block (c := c) (c, h) ho (X := cut (A.base c) (blocks.box (c, h)))) $$ Ho; iintro Ho
  iapply (write_block (c := c) (c, h) ho (X := cut (A.base c) (blocks.box (c, h)))) $$ Ho; iintro Ho
  iapply Hk
  isplitl [Ho]; · iexact Ho
  iexact Hs

/-! ## Buffers put together and taken apart -/

/-- The four experts' boxes are the weights' buffer. -/
theorem ewb_join (X : Fin 4 → Vec F S256x512 .bf16) :
    iprop(ewbAt c 0 (X 0) ∗ ewbAt c 1 (X 1) ∗ ewbAt c 2 (X 2) ∗ ewbAt c 3 (X 3)) ⊢ (hold c ewbM (experts.glue X) : sProp 𝕄) := by
  have h := boxes_hold c cc0_scratch4 experts X
  rw [bigSep_univ_eq_bigSepL [0, 1, 2, 3] (by decide) (by decide)] at h
  exact Entails.of_eq h

/-- The output's blocks: the six that are gathered, and the own two. -/
theorem blocks_list (c : Dev nD) (Φ : Dev nD × Fin 2 → sProp 𝕄) : bigSep Finset.univ Φ
    = iprop(Φ (src 0 c, half 0) ∗ Φ (src 1 c, half 1) ∗ Φ (src 2 c, half 2) ∗ Φ (src 3 c, half 3) ∗ Φ (src 4 c, half 4) ∗ Φ (src 5 c, half 5) ∗ Φ (c, 0) ∗ Φ (c, 1)) := by
  rw [bigSep_univ_eq_bigSepL [(src 0 c, half 0), (src 1 c, half 1), (src 2 c, half 2), (src 3 c, half 3), (src 4 c, half 4), (src 5 c, half 5), (c, 0), (c, 1)]
    (by revert c; decide) (by revert c; decide)]
  rfl

/-- Half of the reduced chunk, in the three quarters that are copied from and the one that is loaded from. -/
theorem red_split (h : Fin 2) (X : Vec F S1x64x512 .bf16) : (redAt c h fullShare X : sProp 𝕄)
    ⊣⊢ iprop((redAt c h (quarter 0) X ∗ redAt c h (quarter 1) X) ∗ redAt c h (quarter 2) X ∗ redAt c h lastQuarter X) := by
  unfold redAt
  refine (owns_halves (c : Thread nD τ) (halfM redM h) fullShare X).trans ?_
  exact Laws.sep_congr (owns_halves (c : Thread nD τ) (halfM redM h) fullShare.left X) (owns_halves (c : Thread nD τ) (halfM redM h) fullShare.right X)

/-! ## Where the views point -/

theorem off4_src (s : Fin 6) (c : Dev nD) :
    k0_off4 c (BitVec.ofNat 32 (1 + (hop s).val)) (BitVec.ofNat 32 (64 * (half s).val)) = blocks.off (src s c, half s) := by
  rw [k0_off4_eq c (hop s) (half s)]
  have : (c.val + 3 - (hop s).val) % 4 = (src s c).val := by
    show (c.val + 3 - s.val / 2) % 4 = (c.val + (3 - s.val / 2)) % 4
    have := s.isLt
    congr 1; omega
  show ![128 * ((c.val + 3 - (hop s).val) % 4) + 64 * (half s).val, 0] = ![128 * (src s c).val + 64 * (half s).val, 0]
  rw [this]
theorem off3_own (h : Fin 2) (c : Dev nD) : k0_off3 c (BitVec.ofNat 32 (64 * h.val)) = blocks.off (c, h) := k0_off3_eq c h

end Cert.KernelIdeal.Moe

end
-- ==== Proof.KernelIdeal.Parts.lean ====
/-
# The kernel body, part by part

The body is printed in parts. Each theorem here runs one part on any device: from what the part reads, the slots and
blocks that it writes and the tickets that it uses, to the same with the contents that the devices compute.
-/
module

public import proofs.«01_k».proof.Proof.KernelIdeal.Steps

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts on this kernel's buffers -/

abbrev p1 := k0_part1 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p2 := k0_part2 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p3 := k0_part3 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p4 := k0_part4 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p5 := k0_part5 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p6 := k0_part6 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p7 := k0_part7 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p8 := k0_part8 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p9 := k0_part9 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p10 := k0_part10 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p11 := k0_part11 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p12 := k0_part12 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p13 := k0_part13 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p14 := k0_part14 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p15 := k0_part15 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p16 := k0_part16 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p17 := k0_part17 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p18 := k0_part18 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p19 := k0_part19 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p20 := k0_part20 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p21 := k0_part21 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p22 := k0_part22 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p23 := k0_part23 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10
abbrev p24 := k0_part24 (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10

variable {A : Ins F} {c : Dev nD}

/-- A program that only returns. -/
theorem run_ret {α : Type} (Q : α → sProp (MT nD τ sig Unit (Elt F) ℕ UU ℕ)) (b : α) {a : α} (h : a = b) : Q b ⊢ run c (.ret a) Q := by
  subst h
  iintro H
  rw [run, wp_ret]; imodintro; iexact H

theorem zero2 : (![0, 0] : Fin 2 → ℕ) = fun _ => 0 := by decide

/-! ## The barrier, the weights and the gates -/

theorem run_p1 {l : List (GSem nD τ sig × ℕ)} {W0 W1 : Vec F S256x512 .bf16} {Q : _ → sProp (MT nD τ sig Unit (Elt F) ℕ UU ℕ)} :
    iprop(know A ∗ owesL (F := F) c (dueBar c ++ l) ∗ dutyTok ER (barCell (up 1 c)) 0 2 ∗ dutyTok ER (barCell (up 2 c)) 0 1 ∗ dutyTok ER (barCell (up 3 c)) 0 0
        ∗ landing (F := F) c 0 ∗ landing (F := F) c 1 ∗ landing (F := F) c 2 ∗ hold c ewM (A.ew c) ∗ ewbAt c 0 W0 ∗ ewbAt c 1 W1)
      ⊢ iprop((iprop(owesL (F := F) c l ∗ hold c ewM (A.ew c) ∗ ewbAt c 0 (k0_pay2 (cut (A.ew c) (ewBox 0))) ∗ ewbAt c 1 W1)
          -∗ Q ⟨c, my c, SemArray.scalar (sig.barrier 0 rfl), k0_pay3 (cut (A.ew c) (ewBox 1))⟩) -∗ run c p1 Q) := by
  unfold p1
  rw [k0_part1_eq_skeleton]
  unfold k0_part1_skel
  simp only [semSignalWord, semWaitWord, Prog.lift, Prog.bind_op, Prog.bind_ret, Prog.pure_eq_ret]
  iintro ⟨#Hc, Ho, Ht2, Ht1, Ht0, H0, H1, H2, Hew, Hw0, Hw1⟩ Hk
  rw [run, wp_deviceId]
  iapply (run_signal (pt := A.pt) (rd := A.rd) (c := c) 2 (k0_dev1_up c) rfl) $$ [Ho Ht2 H2]
  · isplitr; · iexact Hc
    isplitl [Ho]; · iexact Ho
    isplitl [Ht2]; · iexact Ht2
    iexact H2
  iintro Ho
  iapply (run_signal (pt := A.pt) (rd := A.rd) (c := c) 1 (k0_dev2_up c) rfl) $$ [Ho Ht1 H1]
  · isplitr; · iexact Hc
    isplitl [Ho]; · iexact Ho
    isplitl [Ht1]; · iexact Ht1
    iexact H1
  iintro Ho
  iapply (run_signal (pt := A.pt) (rd := A.rd) (c := c) 0 (k0_dev3_up c) rfl) $$ [Ho Ht0 H0]
  · isplitr; · iexact Hc
    isplitl [Ho]; · iexact Ho
    isplitl [Ht0]; · iexact Ht0
    iexact H0
  iintro Ho
  iapply (read_hold c (off' := ![(0 : Fin 4).val, 0, 0]) rfl (ewOff_inb 0)) $$ Hew; iintro Hew
  iapply (read_ewb 0 rfl) $$ Hw0; iintro Hw0
  iapply (write_ewb 0 rfl) $$ Hw0; iintro Hw0
  iapply (read_hold c (off' := ![(1 : Fin 4).val, 0, 0]) rfl (ewOff_inb 1)) $$ Hew; iintro Hew
  iapply (read_ewb 1 rfl) $$ Hw1; iintro Hw1
  iapply (run_ret Q ⟨c, my c, SemArray.scalar (sig.barrier 0 rfl), k0_pay3 (cut (A.ew c) (ewBox 1))⟩ rfl)
  iapply Hk
  isplitl [Ho]; · iexact Ho
  isplitl [Hew]; · iexact Hew
  isplitl [Hw0]; · iexact Hw0
  iexact Hw1

/-- The weights as `bf16`, and what the gates are computed from. -/
theorem run_p2 {W1 W2 W3 : Vec F S256x512 .bf16} {S : Vec F S256x512 .bf16} {Q : _ → sProp (MT nD τ sig Unit (Elt F) ℕ UU ℕ)} :
    iprop(hold c ewM (A.ew c) ∗ ewbAt c 0 (k0_pay2 (cut (A.ew c) (ewBox 0))) ∗ ewbAt c 1 W1 ∗ ewbAt c 2 W2 ∗ ewbAt c 3 W3
        ∗ hold c swM (A.sw c) ∗ hold c swbM S ∗ hold c xM (A.x c) ∗ hold c rwM (A.rw c))
      ⊢ iprop((iprop(hold c ewM (A.ew c) ∗ hold c ewbM (A.ewb c) ∗ hold c swM (A.sw c) ∗ hold c swbM (A.swb c) ∗ hold c xM (A.x c) ∗ hold c rwM (A.rw c))
          -∗ Q ⟨k0_pay7 (A.x c), k0_pay8 (A.x c) (A.rw c), iota .tc S512x16 32 [1] iota_S512x16_d1_w32⟩)
          -∗ run c (p2 (k0_pay3 (cut (A.ew c) (ewBox 1)))) Q) := by
  unfold p2
  rw [k0_part2_eq_skeleton]
  unfold k0_part2_skel
  simp only [semSignalWord, semWaitWord, Prog.lift, Prog.bind_op, Prog.bind_ret, Prog.pure_eq_ret]
  iintro ⟨Hew, H0, H1, H2, H3, Hsw, Hswb, Hx, Hrw⟩ Hk
  iapply (write_ewb 1 rfl) $$ H1; iintro H1
  iapply (read_hold c (off' := ![(2 : Fin 4).val, 0, 0]) rfl (ewOff_inb 2)) $$ Hew; iintro Hew
  iapply (read_ewb 2 rfl) $$ H2; iintro H2
  iapply (write_ewb 2 rfl) $$ H2; iintro H2
  iapply (read_hold c (off' := ![(3 : Fin 4).val, 0, 0]) rfl (ewOff_inb 3)) $$ Hew; iintro Hew
  iapply (read_ewb 3 rfl) $$ H3; iintro H3
  iapply (write_ewb 3 rfl) $$ H3; iintro H3
  iapply (read_hold_all c zero2) $$ Hsw; iintro Hsw
  iapply (read_hold_all c zero2) $$ Hswb; iintro Hswb
  iapply (write_hold_all c zero2) $$ Hswb; iintro Hswb
  iapply (read_hold_all c zero2) $$ Hx; iintro Hx
  iapply (read_hold_all c zero2) $$ Hrw; iintro Hrw
  iapply (run_ret Q _ rfl)
  iapply Hk
  isplitl [Hew]; · iexact Hew
  isplitl [H0 H1 H2 H3]
  · iapply (ewb_join (c := c) fun e => k0_pay2 (cut (A.ew c) (ewBox e)))
    isplitl [H0]; · iexact H0
    isplitl [H1]; · iexact H1
    isplitl [H2]; · iexact H2
    iexact H3
  isplitl [Hsw]; · iexact Hsw
  isplitl [Hswb]; · iexact Hswb
  isplitl [Hx]; · iexact Hx
  iexact Hrw

/-- The gates, and the barrier: from here on there is room at every device that this one copies to. -/
theorem run_p3 {G : Vec F S512x1 .f32} {Q : _ → sProp (MT nD τ sig Unit (Elt F) ℕ UU ℕ)} :
    iprop(know A ∗ owe0 (F := F) order0 c ∗ cred (tallyAt (barCell c) () 3) ∗ atPos ER (barCell c) 0 ∅ 0
        ∗ hold c xM (A.x c) ∗ hold c ixM (A.ix c) ∗ hold c gateM G)
      ⊢ iprop((iprop(owe0 (F := F) order0 c ∗ semVal (barCell c) 0 ∗ landing (F := F) (up 1 c) 0 ∗ landing (F := F) (up 2 c) 1 ∗ landing (F := F) (up 3 c) 2 ∗ feed A c)
          -∗ Q ⟨k0_pay10 (A.xs c 2), k0_pay11 (A.is c 2), A.gs c 2, k0_pay12 (my c) (A.xs c 2) (A.is c 2) (A.gs c 2), k0_pay13 (my c) (A.xs c 2) (A.is c 2) (A.gs c 2)⟩)
          -∗ run c (p3 c (my c) (SemArray.scalar (sig.barrier 0 rfl)) (k0_pay8 (A.x c) (A.rw c)) (iota .tc S512x16 32 [1] iota_S512x16_d1_w32)) Q) := by
  unfold p3
  rw [k0_part3_eq_skeleton]
  unfold k0_part3_skel
  simp only [semSignalWord, semWaitWord, Prog.lift, Prog.bind_op, Prog.bind_ret, Prog.pure_eq_ret]
  iintro ⟨#Hc, Ho, Hcr, Hat, Hx, Hi, Hg⟩ Hk
  iapply (read_hold_all c zero2) $$ Hi; iintro Hi
  iapply (read_hold_all c zero2) $$ Hg; iintro Hg
  iapply (write_hold_all c zero2) $$ Hg; iintro Hg
  iapply (run_barrier (pt := A.pt) (rd := A.rd) (c := c) (a := 3)
    (above_append (above_copies 1 0 order0 c (by decide)) (above_copies 1 1 order1 c (by decide))) rfl) $$ [Ho Hcr Hat]
  · isplitr; · iexact Hc
    isplitl [Ho]; · iexact Ho
    isplitl [Hcr] <;> iassumption
  iintro ⟨Ho, Hz, H0, H1, H2⟩
  iapply (read_rows (A := A) (c := c) 2 (k0_off1_eq c 2) (k0_off2_eq c 2)) $$ [Hx Hi Hg]
  · unfold feed
    isplitl [Hx]; · iexact Hx
    isplitl [Hi]; · iexact Hi
    iexact Hg
  iintro Hf
  iapply (run_ret Q _ rfl)
  iapply Hk
  isplitl [Ho]; · iexact Ho
  isplitl [Hz]; · iexact Hz
  isplitl [H0]; · iexact H0
  isplitl [H1]; · iexact H1
  isplitl [H2] <;> iassumption

/-! ## The parts of the other devices' chunks, each copied as soon as it is there -/

theorem run_p4 {X : Vec F S1x64x512 .bf16} {Q : _ → sProp (MT nD τ sig Unit (Elt F) ℕ UU ℕ)} :
    iprop(hold c ewbM (A.ewb c) ∗ slotAt partM c 2 X)
      ⊢ iprop((∀ v, iprop(hold c ewbM (A.ewb c) ∗ slotAt partM c 2 (A.pt c 2)) -∗ Q ⟨A.part c 2, v⟩)
          -∗ run c (p4 (my c) (k0_pay10 (A.xs c 2)) (k0_pay11 (A.is c 2)) (A.gs c 2) (k0_pay12 (my c) (A.xs c 2) (A.is c 2) (A.gs c 2)) (k0_pay13 (my c) (A.xs c 2) (A.is c 2) (A.gs c 2))) Q) := by
  unfold p4
  rw [k0_part4_eq_skeleton]
  unfold k0_part4_skel
  simp only [semSignalWord, semWaitWord, Prog.lift, Prog.bind_op, Prog.bind_ret, Prog.pure_eq_ret]
  iintro ⟨Hw, Hs⟩ Hk
  iapply (read_hold_all c zero2) $$ Hw; iintro Hw
  iapply (put_part 2 rfl (A.pay15_pt c)) $$ Hs; iintro Hs
  iapply (run_ret Q ⟨A.part c 2, _⟩ rfl)
  iapply Hk
  isplitl [Hw] <;> iassumption

theorem run_p5 {X : Vec F S1x64x512 .bf16} {Q : _ → sProp (MT nD τ sig Unit (Elt F) ℕ UU ℕ)} :
    iprop(know A ∗ owe0 (F := F) [2, 3, 0, 1, 4, 5] c ∗ slotAt partM c 2 (A.pt c 2) ∗ slotAt partM c 3 X ∗ room0 (F := F) 2 c ∗ room0 (F := F) 3 c
        ∗ toSend 0 2 c ∗ toSend 0 3 c ∗ feed A c)
      ⊢ iprop((∀ v, iprop(owe0 (F := F) [0, 1, 4, 5] c ∗ inFlight (F := F) 0 2 c ∗ inFlight (F := F) 0 3 c ∗ feed A c)
            -∗ Q ⟨v, k0_pay17 (A.xs c 1), k0_pay18 (A.is c 1), A.gs c 1, k0_pay19 (my c)⟩)
          -∗ run c (p5 c (my c) (A.part c 2)) Q) := by
  unfold p5
  rw [k0_part5_eq_skeleton]
  unfold k0_part5_skel
  simp only [semSignalWord, semWaitWord, Prog.lift, Prog.bind_op, Prog.bind_ret, Prog.pure_eq_ret]
  iintro ⟨#Hc, Ho, Hs, Hs', Hr, Hr', Ht, Ht', Hf⟩ Hk
  iapply (copy_part (A := A) (c := c) 2 (Fin.ext (k0_dev4_eq c)) rfl rfl rfl rfl rfl) $$ [Ho Hs Hr Ht]
  · isplitr; · iexact Hc
    isplitl [Ho]; · iexact Ho
    isplitl [Hs]; · iexact Hs
    isplitl [Hr]; · iexact Hr
    iexact Ht
  iintro ⟨Ho, Hin⟩
  iapply (put_part 3 rfl (A.pay16_pt c)) $$ Hs'; iintro Hs'
  iapply (copy_part (A := A) (c := c) 3 (Fin.ext (k0_dev5_eq c)) rfl rfl rfl rfl rfl) $$ [Ho Hs' Hr' Ht']
  · isplitr; · iexact Hc
    isplitl [Ho]; · iexact Ho
    isplitl [Hs']; · iexact Hs'
    isplitl [Hr']; · iexact Hr'
    iexact Ht'
  iintro ⟨Ho, Hin'⟩
  iapply (read_rows (A := A) (c := c) 1 (k0_off1_eq c 1) (k0_off2_eq c 1)) $$ Hf; iintro Hf
  iapply (run_ret Q _ rfl)
  iapply Hk
  isplitl [Ho]; · iexact Ho
  isplitl [Hin]; · iexact Hin
  isplitl [Hin'] <;> iassumption

theorem run_p6 {X : Vec F S1x64x512 .bf16} {Q : _ → sProp (MT nD τ sig Unit (Elt F) ℕ UU ℕ)} :
    iprop(hold c ewbM (A.ewb c) ∗ slotAt partM c 0 X)
      ⊢ iprop((∀ v, iprop(hold c ewbM (A.ewb c) ∗ slotAt partM c 0 (A.pt c 0)) -∗ Q ⟨A.part c 1, v⟩)
          -∗ run c (p6 (my c) (k0_pay17 (A.xs c 1)) (k0_pay18 (A.is c 1)) (A.gs c 1) (k0_pay19 (my c))) Q) := by
  unfold p6
  rw [k0_part6_eq_skeleton]
  unfold k0_part6_skel
  simp only [semSignalWord, semWaitWord, Prog.lift, Prog.bind_op, Prog.bind_ret, Prog.pure_eq_ret]
  iintro ⟨Hw, Hs⟩ Hk
  iapply (read_hold_all c zero2) $$ Hw; iintro Hw
  iapply (put_part 0 rfl (A.pay21_pt c)) $$ Hs; iintro Hs
  iapply (run_ret Q ⟨A.part c 1, _⟩ rfl)
  iapply Hk
  isplitl [Hw]; · iexact Hw
  iexact Hs

theorem run_p7 {X : Vec F S1x64x512 .bf16} {u : BitVec 32} {Q : _ → sProp (MT nD τ sig Unit (Elt F) ℕ UU ℕ)} :
    iprop(know A ∗ owe0 (F := F) [0, 1, 4, 5] c ∗ slotAt partM c 0 (A.pt c 0) ∗ slotAt partM c 1 X ∗ room0 (F := F) 0 c ∗ room0 (F := F) 1 c
        ∗ toSend 0 0 c ∗ toSend 0 1 c)
      ⊢ iprop((∀ v v' v'' w, iprop(owe0 (F := F) [4, 5] c ∗ inFlight (F := F) 0 0 c ∗ inFlight (F := F) 0 1 c) -∗ Q ⟨v, v', v'', w⟩)
          -∗ run c (p7 c (my c) (A.part c 1) u) Q) := by
  unfold p7
  rw [k0_part7_eq_skeleton]
  unfold k0_part7_skel
  simp only [semSignalWord, semWaitWord, Prog.lift, Prog.bind_op, Prog.bind_ret, Prog.pure_eq_ret]
  iintro ⟨#Hc, Ho, Hs, Hs', Hr, Hr', Ht, Ht'⟩ Hk
  iapply (copy_part (A := A) (c := c) 0 (Fin.ext (k0_dev6_eq c)) rfl rfl rfl rfl rfl) $$ [Ho Hs Hr Ht]
  · isplitr; · iexact Hc
    isplitl [Ho]; · iexact Ho
    isplitl [Hs]; · iexact Hs
    isplitl [Hr]; · iexact Hr
    iexact Ht
  iintro ⟨Ho, Hin⟩
  iapply (put_part 1 rfl (A.pay22_pt c)) $$ Hs'; iintro Hs'
  iapply (copy_part (A := A) (c := c) 1 (Fin.ext (k0_dev7_eq c)) rfl rfl rfl rfl rfl) $$ [Ho Hs' Hr' Ht']
  · isplitr; · iexact Hc
    isplitl [Ho]; · iexact Ho
    isplitl [Hs']; · iexact Hs'
    isplitl [Hr']; · iexact Hr'
    iexact Ht'
  iintro ⟨Ho, Hin'⟩
  iapply (run_ret Q _ rfl)
  iapply Hk
  isplitl [Ho]; · iexact Ho
  isplitl [Hin]; · iexact Hin
  iexact Hin'

theorem run_p8 {u u' : BitVec 32} {Q : _ → sProp (MT nD τ sig Unit (Elt F) ℕ UU ℕ)} :
    (feed A c : sProp 𝕄)
      ⊢ iprop((feed A c -∗ Q ⟨k0_pay23 (A.xs c 3), k0_pay25 (my c) (A.xs c 3) (A.is c 3) (A.gs c 3), k0_pay26 (my c) (A.xs c 3) (A.is c 3) (A.gs c 3),
            k0_pay27 (my c) (A.xs c 3) (A.is c 3) (A.gs c 3), k0_pay28 (my c) (A.is c 3) (A.gs c 3)⟩)
          -∗ run c (p8 c (my c) u u') Q) := by
  unfold p8
  rw [k0_part8_eq_skeleton]
  unfold k0_part8_skel
  simp only [semSignalWord, semWaitWord, Prog.lift, Prog.bind_op, Prog.bind_ret, Prog.pure_eq_ret]
  iintro Hf Hk
  iapply (read_rows (A := A) (c := c) 3 (k0_off1_eq c 3) (k0_off2_eq c 3)) $$ Hf; iintro Hf
  iapply (run_ret Q _ rfl)
  iapply Hk; iexact Hf

theorem run_p9 {X Y : Vec F S1x64x512 .bf16} {Q : _ → sProp (MT nD τ sig Unit (Elt F) ℕ UU ℕ)} :
    iprop(know A ∗ owe0 (F := F) [4, 5] c ∗ hold c ewbM (A.ewb c) ∗ slotAt partM c 4 X ∗ slotAt partM c 5 Y ∗ room0 (F := F) 4 c ∗ toSend 0 4 c)
      ⊢ iprop((∀ v v' v'', iprop(owe0 (F := F) [5] c ∗ hold c ewbM (A.ewb c) ∗ inFlight (F := F) 0 4 c ∗ slotAt partM c 5 (A.pt c 5)) -∗ Q ⟨v, v', v''⟩)
          -∗ run c (p9 c (my c) (k0_pay23 (A.xs c 3)) (k0_pay25 (my c) (A.xs c 3) (A.is c 3) (A.gs c 3)) (k0_pay26 (my c) (A.xs c 3) (A.is c 3) (A.gs c 3))
            (k0_pay27 (my c) (A.xs c 3) (A.is c 3) (A.gs c 3)) (k0_pay28 (my c) (A.is c 3) (A.gs c 3))) Q) := by
  unfold p9
  rw [k0_part9_eq_skeleton]
  unfold k0_part9_skel
  simp only [semSignalWord, semWaitWord, Prog.lift, Prog.bind_op, Prog.bind_ret, Prog.pure_eq_ret]
  iintro ⟨#Hc, Ho, Hw, Hs, Hs', Hr, Ht⟩ Hk
  iapply (read_hold_all c zero2) $$ Hw; iintro Hw
  iapply (put_part 4 rfl (A.pay30_pt c)) $$ Hs; iintro Hs
  iapply (copy_part (A := A) (c := c) 4 (Fin.ext (k0_dev8_eq c)) rfl rfl rfl rfl rfl) $$ [Ho Hs Hr Ht]
  · isplitr; · iexact Hc
    isplitl [Ho]; · iexact Ho
    isplitl [Hs]; · iexact Hs
    isplitl [Hr]; · iexact Hr
    iexact Ht
  iintro ⟨Ho, Hin⟩
  iapply (put_part 5 rfl (A.pay31_pt c)) $$ Hs'; iintro Hs'
  iapply (run_ret Q _ rfl)
  iapply Hk
  isplitl [Ho]; · iexact Ho
  isplitl [Hw]; · iexact Hw
  isplitl [Hin]; · iexact Hin
  iexact Hs'

/-! ## The own chunk's part, and the first halves reduced -/

theorem run_p10 {u u' : BitVec 32} {Q : _ → sProp (MT nD τ sig Unit (Elt F) ℕ UU ℕ)} :
    iprop(know A ∗ owe0 (F := F) [5] c ∗ slotAt partM c 5 (A.pt c 5) ∗ room0 (F := F) 5 c ∗ toSend 0 5 c ∗ feed A c)
      ⊢ iprop((iprop(owe1 (F := F) order1 c ∗ inFlight (F := F) 0 5 c ∗ feed A c)
            -∗ Q ⟨k0_pay32 (A.xs c 0), k0_pay33 (A.is c 0), A.gs c 0, k0_pay34 (my c) (A.xs c 0) (A.is c 0) (A.gs c 0),
              k0_pay35 (my c) (A.xs c 0) (A.is c 0) (A.gs c 0), Scalar.muli (my c) 4#32, 2#32⟩)
          -∗ run c (p10 c (my c) u u') Q) := by
  unfold p10
  rw [k0_part10_eq_skeleton]
  unfold k0_part10_skel
  simp only [semSignalWord, semWaitWord, Prog.lift, Prog.bind_op, Prog.bind_ret, Prog.pure_eq_ret]
  iintro ⟨#Hc, Ho, Hs, Hr, Ht, Hf⟩ Hk
  iapply (copy_part (A := A) (c := c) 5 (Fin.ext (k0_dev9_eq c)) rfl rfl rfl rfl rfl) $$ [Ho Hs Hr Ht]
  · isplitr; · iexact Hc
    isplitl [Ho]; · iexact Ho
    isplitl [Hs]; · iexact Hs
    isplitl [Hr]; · iexact Hr
    iexact Ht
  iintro ⟨Ho, Hin⟩
  iapply (read_rows (A := A) (c := c) 0 (k0_off1_eq c 0) (k0_off2_eq c 0)) $$ Hf; iintro Hf
  iapply (run_ret Q _ rfl)
  iapply Hk
  isplitl [Ho]; · iexact Ho
  isplitl [Hin]; · iexact Hin
  iexact Hf

theorem run_p11 {u : BitVec 32} {Q : _ → sProp (MT nD τ sig Unit (Elt F) ℕ UU ℕ)} :
    iprop(know A ∗ owe1 (F := F) order1 c ∗ hold c ewbM (A.ewb c) ∗ inFlight (F := F) 0 0 c)
      ⊢ iprop((iprop(owe1 (F := F) order1 c ∗ hold c ewbM (A.ewb c) ∗ semVal (sendCell 0 0 c) 0 ∗ slotAt partM c 0 (A.pt c 0)) -∗ Q (A.part c 0))
          -∗ run c (p11 (my c) u (k0_pay32 (A.xs c 0)) (k0_pay33 (A.is c 0)) (A.gs c 0) (k0_pay34 (my c) (A.xs c 0) (A.is c 0) (A.gs c 0))
            (k0_pay35 (my c) (A.xs c 0) (A.is c 0) (A.gs c 0)) (Scalar.muli (my c) 4#32) 2#32) Q) := by
  unfold p11
  rw [k0_part11_eq_skeleton]
  unfold k0_part11_skel
  simp only [semSignalWord, semWaitWord, Prog.lift, Prog.bind_op, Prog.bind_ret, Prog.pure_eq_ret]
  iintro ⟨#Hc, Ho, Hw, Hin⟩ Hk
  iapply (read_hold_all c zero2) $$ Hw; iintro Hw
  iapply (sent_part (A := A) (c := c) 0 rfl (above_copies 0 1 order1 c (by decide))) $$ [Ho Hin]
  · isplitr; · iexact Hc
    isplitl [Ho]; · iexact Ho
    iexact Hin
  iintro ⟨Ho, Hz, Hs⟩
  iapply (run_ret Q (A.part c 0) (A.pay36_part c))
  iapply Hk
  isplitl [Ho]; · iexact Ho
  isplitl [Hw]; · iexact Hw
  isplitl [Hz]; · iexact Hz
  iexact Hs

theorem run_p12 {u u' : BitVec 32} {Q : _ → sProp (MT nD τ sig Unit (Elt F) ℕ UU ℕ)} :
    iprop(know A ∗ owe1 (F := F) order1 c ∗ toRecv (F := F) 0 0 c ∗ inFlight (F := F) 0 4 c ∗ toRecv (F := F) 0 4 c ∗ inFlight (F := F) 0 2 c)
      ⊢ iprop((∀ v v', iprop(owe1 (F := F) order1 c ∗ (semVal (recvCell 0 0 c) 0 ∗ slotAt rsM c 0 (A.pt (src 0 c) 0)) ∗ (semVal (sendCell 0 4 c) 0 ∗ slotAt partM c 4 (A.pt c 4))
            ∗ (semVal (recvCell 0 4 c) 0 ∗ slotAt rsM c 4 (A.pt (src 4 c) 4)) ∗ (semVal (sendCell 0 2 c) 0 ∗ slotAt partM c 2 (A.pt c 2))) -∗ Q ⟨v, v'⟩)
          -∗ run c (p12 u u') Q) := by
  unfold p12
  rw [k0_part12_eq_skeleton]
  unfold k0_part12_skel
  simp only [semSignalWord, semWaitWord, Prog.lift, Prog.bind_op, Prog.bind_ret, Prog.pure_eq_ret]
  iintro ⟨#Hc, Ho, Hr0, Hi4, Hr4, Hi2⟩ Hk
  iapply (landed_part (A := A) (c := c) 0 rfl (above_copies 2 1 order1 c (by decide))) $$ [Ho Hr0]
  · isplitr; · iexact Hc
    isplitl [Ho]; · iexact Ho
    iexact Hr0
  iintro ⟨Ho, Hz0, Hs0⟩
  iapply (sent_part (A := A) (c := c) 4 rfl (above_copies 0 1 order1 c (by decide))) $$ [Ho Hi4]
  · isplitr; · iexact Hc
    isplitl [Ho]; · iexact Ho
    iexact Hi4
  iintro ⟨Ho, Hz4, Hs4⟩
  iapply (landed_part (A := A) (c := c) 4 rfl (above_copies 2 1 order1 c (by decide))) $$ [Ho Hr4]
  · isplitr; · iexact Hc
    isplitl [Ho]; · iexact Ho
    iexact Hr4
  iintro ⟨Ho, Hy4, Ht4⟩
  iapply (sent_part (A := A) (c := c) 2 rfl (above_copies 0 1 order1 c (by decide))) $$ [Ho Hi2]
  · isplitr; · iexact Hc
    isplitl [Ho]; · iexact Ho
    iexact Hi2
  iintro ⟨Ho, Hz2, Hs2⟩
  iapply (run_ret Q _ rfl)
  iapply Hk
  isplitl [Ho]; · iexact Ho
  isplitl [Hz0 Hs0]; · isplitl [Hz0] <;> iassumption
  isplitl [Hz4 Hs4]; · isplitl [Hz4] <;> iassumption
  isplitl [Hy4 Ht4]; · isplitl [Hy4] <;> iassumption
  isplitl [Hz2] <;> iassumption

theorem run_p13 {u u' : BitVec 32} {X : Vec F S1x64x512 .bf16} {Q : _ → sProp (MT nD τ sig Unit (Elt F) ℕ UU ℕ)} :
    iprop(know A ∗ owe1 (F := F) order1 c ∗ toRecv (F := F) 0 2 c ∗ slotAt rsM c 0 (A.pt (src 0 c) 0) ∗ slotAt rsM c 4 (A.pt (src 4 c) 4) ∗ redAt c 0 fullShare X)
      ⊢ iprop((∀ v, iprop(owe1 (F := F) order1 c ∗ semVal (recvCell 0 2 c) 0 ∗ slotAt rsM c 0 (A.pt (src 0 c) 0) ∗ slotAt rsM c 2 (A.pt (src 2 c) 2)
            ∗ slotAt rsM c 4 (A.pt (src 4 c) 4) ∗ redAt c 0 fullShare (A.rd c 0)) -∗ Q v)
          -∗ run c (p13 (my c) (A.part c 0) u u') Q) := by
  unfold p13
  rw [k0_part13_eq_skeleton]
  unfold k0_part13_skel
  simp only [semSignalWord, semWaitWord, Prog.lift, Prog.bind_op, Prog.bind_ret, Prog.pure_eq_ret]
  iintro ⟨#Hc, Ho, Hr2, Hs0, Hs4, Hd⟩ Hk
  iapply (landed_part (A := A) (c := c) 2 rfl (above_copies 2 1 order1 c (by decide))) $$ [Ho Hr2]
  · isplitr; · iexact Hc
    isplitl [Ho]; · iexact Ho
    iexact Hr2
  iintro ⟨Ho, Hz2, Hs2⟩
  iapply (read_slot rsM 0 rfl) $$ Hs0; iintro Hs0
  iapply (read_slot rsM 2 rfl) $$ Hs2; iintro Hs2
  iapply (read_slot rsM 4 rfl) $$ Hs4; iintro Hs4
  iapply (put_red 0 rfl (A.pay37_rd c)) $$ Hd; iintro Hd
  iapply (run_ret Q _ rfl)
  iapply Hk
  isplitl [Ho]; · iexact Ho
  isplitl [Hz2]; · iexact Hz2
  isplitl [Hs0]; · iexact Hs0
  isplitl [Hs2]; · iexact Hs2
  isplitl [Hs4]; · iexact Hs4
  iexact Hd

theorem run_p14 {Q : _ → sProp (MT nD τ sig Unit (Elt F) ℕ UU ℕ)} :
    iprop(know A ∗ owe1 (F := F) order1 c ∗ (redAt c 0 (quarter 0) (A.rd c 0) ∗ redAt c 0 (quarter 1) (A.rd c 0) ∗ redAt c 0 (quarter 2) (A.rd c 0))
        ∗ (room1 (F := F) 0 c ∗ room1 (F := F) 2 c ∗ room1 (F := F) 4 c) ∗ toSend 1 0 c ∗ toSend 1 2 c ∗ toSend 1 4 c)
      ⊢ iprop((∀ v v', iprop(owe1 (F := F) [3, 1, 5] c ∗ inFlight (F := F) 1 0 c ∗ inFlight (F := F) 1 2 c ∗ inFlight (F := F) 1 4 c) -∗ Q ⟨v, v'⟩)
          -∗ run c (p14 c (my c)) Q) := by
  unfold p14
  rw [k0_part14_eq_skeleton]
  unfold k0_part14_skel
  simp only [semSignalWord, semWaitWord, Prog.lift, Prog.bind_op, Prog.bind_ret, Prog.pure_eq_ret]
  iintro ⟨#Hc, Ho, ⟨Hd0, Hd1, Hd2⟩, ⟨Hr0, Hr2, Hr4⟩, Ht0, Ht2, Ht4⟩ Hk
  iapply (copy_red (A := A) (c := c) 2 (Fin.ext (k0_dev10_eq c)) rfl rfl rfl rfl rfl) $$ [Ho Hd1 Hr2 Ht2]
  · isplitr; · iexact Hc
    isplitl [Ho]; · iexact Ho
    isplitl [Hd1]; · iexact Hd1
    isplitl [Hr2]; · iexact Hr2
    iexact Ht2
  iintro ⟨Ho, Hi2⟩
  iapply (copy_red (A := A) (c := c) 0 (Fin.ext (k0_dev11_eq c)) rfl rfl rfl rfl rfl) $$ [Ho Hd0 Hr0 Ht0]
  · isplitr; · iexact Hc
    isplitl [Ho]; · iexact Ho
    isplitl [Hd0]; · iexact Hd0
    isplitl [Hr0]; · iexact Hr0
    iexact Ht0
  iintro ⟨Ho, Hi0⟩
  iapply (copy_red (A := A) (c := c) 4 (Fin.ext (k0_dev12_eq c)) rfl rfl rfl rfl rfl) $$ [Ho Hd2 Hr4 Ht4]
  · isplitr; · iexact Hc
    isplitl [Ho]; · iexact Ho
    isplitl [Hd2]; · iexact Hd2
    isplitl [Hr4]; · iexact Hr4
    iexact Ht4
  iintro ⟨Ho, Hi4⟩
  iapply (run_ret Q _ rfl)
  iapply Hk
  isplitl [Ho]; · iexact Ho
  isplitl [Hi0]; · iexact Hi0
  isplitl [Hi2]; · iexact Hi2
  iexact Hi4

/-! ## The second halves -/

theorem run_p15 {u u' : BitVec 32} {Q : _ → sProp (MT nD τ sig Unit (Elt F) ℕ UU ℕ)} :
    iprop(know A ∗ owe1 (F := F) [3, 1, 5] c ∗ inFlight (F := F) 0 1 c ∗ toRecv (F := F) 0 1 c ∗ inFlight (F := F) 0 5 c)
      ⊢ iprop((iprop(owe1 (F := F) [3, 1, 5] c ∗ (semVal (sendCell 0 1 c) 0 ∗ slotAt partM c 1 (A.pt c 1)) ∗ (semVal (recvCell 0 1 c) 0 ∗ slotAt rsM c 1 (A.pt (src 1 c) 1))
            ∗ (semVal (sendCell 0 5 c) 0 ∗ slotAt partM c 5 (A.pt c 5))) -∗ Q ⟨⟩)
          -∗ run c (p15 u u') Q) := by
  unfold p15
  rw [k0_part15_eq_skeleton]
  unfold k0_part15_skel
  simp only [semSignalWord, semWaitWord, Prog.lift, Prog.bind_op, Prog.bind_ret, Prog.pure_eq_ret]
  iintro ⟨#Hc, Ho, Hi1, Hr1, Hi5⟩ Hk
  iapply (sent_part (A := A) (c := c) 1 rfl (above_copies 0 1 [3, 1, 5] c (by decide))) $$ [Ho Hi1]
  · isplitr; · iexact Hc
    isplitl [Ho]; · iexact Ho
    iexact Hi1
  iintro ⟨Ho, Hz1, Hs1⟩
  iapply (landed_part (A := A) (c := c) 1 rfl (above_copies 2 1 [3, 1, 5] c (by decide))) $$ [Ho Hr1]
  · isplitr; · iexact Hc
    isplitl [Ho]; · iexact Ho
    iexact Hr1
  iintro ⟨Ho, Hy1, Ht1⟩
  iapply (sent_part (A := A) (c := c) 5 rfl (above_copies 0 1 [3, 1, 5] c (by decide))) $$ [Ho Hi5]
  · isplitr; · iexact Hc
    isplitl [Ho]; · iexact Ho
    iexact Hi5
  iintro ⟨Ho, Hz5, Hs5⟩
  iapply (run_ret Q _ rfl)
  iapply Hk
  isplitl [Ho]; · iexact Ho
  isplitl [Hz1 Hs1]; · isplitl [Hz1] <;> iassumption
  isplitl [Hy1 Ht1]; · isplitl [Hy1] <;> iassumption
  isplitl [Hz5] <;> iassumption

theorem run_p16 {u : BitVec 32} {Q : _ → sProp (MT nD τ sig Unit (Elt F) ℕ UU ℕ)} :
    iprop(know A ∗ owe1 (F := F) [3, 1, 5] c ∗ toRecv (F := F) 0 5 c ∗ inFlight (F := F) 0 3 c ∗ toRecv (F := F) 0 3 c ∗ slotAt rsM c 1 (A.pt (src 1 c) 1))
      ⊢ iprop((iprop(owe1 (F := F) [3, 1, 5] c ∗ (semVal (recvCell 0 5 c) 0 ∗ slotAt rsM c 5 (A.pt (src 5 c) 5)) ∗ (semVal (sendCell 0 3 c) 0 ∗ slotAt partM c 3 (A.pt c 3))
            ∗ (semVal (recvCell 0 3 c) 0 ∗ slotAt rsM c 3 (A.pt (src 3 c) 3)) ∗ slotAt rsM c 1 (A.pt (src 1 c) 1))
            -∗ Q (k0_pay38 (A.part c 0) (A.pt (src 1 c) 1) (A.pt (src 3 c) 3)))
          -∗ run c (p16 u (A.part c 0)) Q) := by
  unfold p16
  rw [k0_part16_eq_skeleton]
  unfold k0_part16_skel
  simp only [semSignalWord, semWaitWord, Prog.lift, Prog.bind_op, Prog.bind_ret, Prog.pure_eq_ret]
  iintro ⟨#Hc, Ho, Hr5, Hi3, Hr3, Hs1⟩ Hk
  iapply (landed_part (A := A) (c := c) 5 rfl (above_copies 2 1 [3, 1, 5] c (by decide))) $$ [Ho Hr5]
  · isplitr; · iexact Hc
    isplitl [Ho]; · iexact Ho
    iexact Hr5
  iintro ⟨Ho, Hz5, Hs5⟩
  iapply (sent_part (A := A) (c := c) 3 rfl (above_copies 0 1 [3, 1, 5] c (by decide))) $$ [Ho Hi3]
  · isplitr; · iexact Hc
    isplitl [Ho]; · iexact Ho
    iexact Hi3
  iintro ⟨Ho, Hz3, Hs3⟩
  iapply (landed_part (A := A) (c := c) 3 rfl (above_copies 2 1 [3, 1, 5] c (by decide))) $$ [Ho Hr3]
  · isplitr; · iexact Hc
    isplitl [Ho]; · iexact Ho
    iexact Hr3
  iintro ⟨Ho, Hy3, Ht3⟩
  iapply (read_slot rsM 1 rfl) $$ Hs1; iintro Hs1
  iapply (read_slot rsM 3 rfl) $$ Ht3; iintro Ht3
  iapply (run_ret Q _ rfl)
  iapply Hk
  isplitl [Ho]; · iexact Ho
  isplitl [Hz5 Hs5]; · isplitl [Hz5] <;> iassumption
  isplitl [Hz3 Hs3]; · isplitl [Hz3] <;> iassumption
  isplitl [Hy3 Ht3]; · isplitl [Hy3] <;> iassumption
  iexact Hs1

/-- The second half is reduced; the part also copies it to the device two places on, for which it gives a quarter. -/
theorem run_p17 {X : Vec F S1x64x512 .bf16} {Q : _ → sProp (MT nD τ sig Unit (Elt F) ℕ UU ℕ)} :
    iprop(know A ∗ owe1 (F := F) [3, 1, 5] c ∗ slotAt rsM c 5 (A.pt (src 5 c) 5) ∗ redAt c 1 fullShare X ∗ room1 (F := F) 3 c ∗ toSend 1 3 c)
      ⊢ iprop((∀ v v', iprop(owe1 (F := F) [1, 5] c ∗ slotAt rsM c 5 (A.pt (src 5 c) 5) ∗ inFlight (F := F) 1 3 c
            ∗ redAt c 1 (quarter 0) (A.rd c 1) ∗ redAt c 1 (quarter 2) (A.rd c 1) ∗ redAt c 1 lastQuarter (A.rd c 1)) -∗ Q ⟨v, v'⟩)
          -∗ run c (p17 c (my c) (k0_pay38 (A.part c 0) (A.pt (src 1 c) 1) (A.pt (src 3 c) 3))) Q) := by
  unfold p17
  rw [k0_part17_eq_skeleton]
  unfold k0_part17_skel
  simp only [semSignalWord, semWaitWord, Prog.lift, Prog.bind_op, Prog.bind_ret, Prog.pure_eq_ret]
  iintro ⟨#Hc, Ho, Hs5, Hd, Hr, Ht⟩ Hk
  iapply (read_slot rsM 5 rfl) $$ Hs5; iintro Hs5
  iapply (put_red 1 rfl (A.pay39_rd c)) $$ Hd; iintro Hd
  ihave Hd' := (red_split (c := c) 1 (A.rd c 1)).1 $$ Hd
  icases Hd' with ⟨⟨Hd0, Hd1⟩, Hd2, Hd3⟩
  iapply (copy_red (A := A) (c := c) 3 (Fin.ext (k0_dev13_eq c)) rfl rfl rfl rfl rfl) $$ [Ho Hd1 Hr Ht]
  · isplitr; · iexact Hc
    isplitl [Ho]; · iexact Ho
    isplitl [Hd1]; · iexact Hd1
    isplitl [Hr]; · iexact Hr
    iexact Ht
  iintro ⟨Ho, Hi⟩
  iapply (run_ret Q _ rfl)
  iapply Hk
  isplitl [Ho]; · iexact Ho
  isplitl [Hs5]; · iexact Hs5
  isplitl [Hi]; · iexact Hi
  isplitl [Hd0]; · iexact Hd0
  isplitl [Hd2]; · iexact Hd2
  iexact Hd3

/-! ## The output -/

/-- The output after the shared expert's store, block by block. -/
theorem base_blocks (c : Dev nD) : (hold c outM (k0_pay40 (k0_pay7 (A.x c)) (A.swb c)) : sProp 𝕄)
    ⊢ iprop(outAt c (src 0 c, half 0) (cut (A.base c) (blocks.box (src 0 c, half 0))) ∗ outAt c (src 1 c, half 1) (cut (A.base c) (blocks.box (src 1 c, half 1)))
      ∗ outAt c (src 2 c, half 2) (cut (A.base c) (blocks.box (src 2 c, half 2))) ∗ outAt c (src 3 c, half 3) (cut (A.base c) (blocks.box (src 3 c, half 3)))
      ∗ outAt c (src 4 c, half 4) (cut (A.base c) (blocks.box (src 4 c, half 4))) ∗ outAt c (src 5 c, half 5) (cut (A.base c) (blocks.box (src 5 c, half 5)))
      ∗ outAt c (c, 0) (cut (A.base c) (blocks.box (c, 0))) ∗ outAt c (c, 1) (cut (A.base c) (blocks.box (c, 1)))) :=
  Entails.of_eq ((hold_boxes c cc0_stg5_0 blocks (A.base c)).trans (blocks_list c _))

/-- The last copies, the shared expert's part of the output, and the first own block. -/
theorem run_p18 {X : Vec F S512x512 .f32} {Q : _ → sProp (MT nD τ sig Unit (Elt F) ℕ UU ℕ)} :
    iprop(know A ∗ owe1 (F := F) [1, 5] c ∗ redAt c 1 (quarter 0) (A.rd c 1) ∗ redAt c 1 (quarter 2) (A.rd c 1) ∗ redAt c 0 lastQuarter (A.rd c 0)
        ∗ (room1 (F := F) 1 c ∗ room1 (F := F) 5 c) ∗ (toSend 1 1 c ∗ toSend 1 5 c) ∗ hold c swbM (A.swb c) ∗ hold c outM X)
      ⊢ iprop((∀ v v', iprop(owe1 (F := F) [] c ∗ inFlight (F := F) 1 1 c ∗ inFlight (F := F) 1 5 c ∗ redAt c 0 lastQuarter (A.rd c 0) ∗ hold c swbM (A.swb c)
            ∗ outAt c (c, 0) (A.outBlock c (c, 0)) ∗ outAt c (c, 1) (cut (A.base c) (blocks.box (c, 1)))
            ∗ outAt c (src 0 c, half 0) (cut (A.base c) (blocks.box (src 0 c, half 0))) ∗ outAt c (src 1 c, half 1) (cut (A.base c) (blocks.box (src 1 c, half 1)))
            ∗ outAt c (src 2 c, half 2) (cut (A.base c) (blocks.box (src 2 c, half 2))) ∗ outAt c (src 3 c, half 3) (cut (A.base c) (blocks.box (src 3 c, half 3)))
            ∗ outAt c (src 4 c, half 4) (cut (A.base c) (blocks.box (src 4 c, half 4))) ∗ outAt c (src 5 c, half 5) (cut (A.base c) (blocks.box (src 5 c, half 5)))) -∗ Q ⟨v, v'⟩)
          -∗ run c (p18 c (my c) (k0_pay7 (A.x c))) Q) := by
  unfold p18
  rw [k0_part18_eq_skeleton]
  unfold k0_part18_skel
  simp only [semSignalWord, semWaitWord, Prog.lift, Prog.bind_op, Prog.bind_ret, Prog.pure_eq_ret]
  iintro ⟨#Hc, Ho, Hd0, Hd2, Hd, ⟨Hr1, Hr5⟩, ⟨Ht1, Ht5⟩, Hw, Hout⟩ Hk
  iapply (copy_red (A := A) (c := c) 1 (Fin.ext (k0_dev14_eq c)) rfl rfl rfl rfl rfl) $$ [Ho Hd0 Hr1 Ht1]
  · isplitr; · iexact Hc
    isplitl [Ho]; · iexact Ho
    isplitl [Hd0]; · iexact Hd0
    isplitl [Hr1]; · iexact Hr1
    iexact Ht1
  iintro ⟨Ho, Hi1⟩
  iapply (copy_red (A := A) (c := c) 5 (Fin.ext (k0_dev15_eq c)) rfl rfl rfl rfl rfl) $$ [Ho Hd2 Hr5 Ht5]
  · isplitr; · iexact Hc
    isplitl [Ho]; · iexact Ho
    isplitl [Hd2]; · iexact Hd2
    isplitl [Hr5]; · iexact Hr5
    iexact Ht5
  iintro ⟨Ho, Hi5⟩
  iapply (read_hold_all c zero2) $$ Hw; iintro Hw
  iapply (read_hold_all c zero2) $$ Hout; iintro Hout
  iapply (write_hold_all c zero2) $$ Hout; iintro Hout
  ihave Hb := (base_blocks (A := A) c) $$ Hout
  icases Hb with ⟨Hb0, Hb1, Hb2, Hb3, Hb4, Hb5, Hc0, Hc1⟩
  iapply (add_own (A := A) (c := c) 0 rfl (off3_own 0 c) rfl) $$ [Hc0 Hd]
  · isplitl [Hc0]; · iexact Hc0
    iexact Hd
  iintro ⟨Hc0, Hd⟩
  iapply (run_ret Q _ rfl)
  iapply Hk
  isplitl [Ho]; · iexact Ho
  isplitl [Hi1]; · iexact Hi1
  isplitl [Hi5]; · iexact Hi5
  isplitl [Hd]; · iexact Hd
  isplitl [Hw]; · iexact Hw
  isplitl [Hc0]; · iexact Hc0
  isplitl [Hc1]; · iexact Hc1
  isplitl [Hb0]; · iexact Hb0
  isplitl [Hb1]; · iexact Hb1
  isplitl [Hb2]; · iexact Hb2
  isplitl [Hb3]; · iexact Hb3
  isplitl [Hb4]; · iexact Hb4
  iexact Hb5

theorem run_p19 {u u' : BitVec 32} {Q : _ → sProp (MT nD τ sig Unit (Elt F) ℕ UU ℕ)} :
    iprop(know A ∗ owe1 (F := F) [] c ∗ redAt c 1 lastQuarter (A.rd c 1) ∗ outAt c (c, 1) (cut (A.base c) (blocks.box (c, 1))) ∗ inFlight (F := F) 1 0 c ∗ toRecv (F := F) 1 0 c)
      ⊢ iprop((∀ v, iprop(owe1 (F := F) [] c ∗ redAt c 1 lastQuarter (A.rd c 1) ∗ outAt c (c, 1) (A.outBlock c (c, 1)) ∗ (semVal (sendCell 1 0 c) 0 ∗ redAt c 0 (quarter 0) (A.rd c 0))
            ∗ (semVal (recvCell 1 0 c) 0 ∗ slotAt agM c 0 (A.rd (src 0 c) (half 0)))) -∗ Q v)
          -∗ run c (p19 c (my c) u u') Q) := by
  unfold p19
  rw [k0_part19_eq_skeleton]
  unfold k0_part19_skel
  simp only [semSignalWord, semWaitWord, Prog.lift, Prog.bind_op, Prog.bind_ret, Prog.pure_eq_ret]
  iintro ⟨#Hc, Ho, Hd, Hb, Hi, Hr⟩ Hk
  iapply (add_own (A := A) (c := c) 1 rfl (off3_own 1 c) rfl) $$ [Hb Hd]
  · isplitl [Hb]; · iexact Hb
    iexact Hd
  iintro ⟨Hb, Hd⟩
  iapply (sent_red (A := A) (c := c) 0 rfl) $$ [Ho Hi]
  · isplitr; · iexact Hc
    isplitl [Ho]; · iexact Ho
    iexact Hi
  iintro ⟨Ho, Hz, Hs⟩
  iapply (landed_red (A := A) (c := c) 0 rfl) $$ [Ho Hr]
  · isplitr; · iexact Hc
    isplitl [Ho]; · iexact Ho
    iexact Hr
  iintro ⟨Ho, Hy, Ht⟩
  iapply (run_ret Q _ rfl)
  iapply Hk
  isplitl [Ho]; · iexact Ho
  isplitl [Hd]; · iexact Hd
  isplitl [Hb]; · iexact Hb
  isplitl [Hz Hs]; · isplitl [Hz]; · iexact Hz
                     iexact Hs
  isplitl [Hy] <;> iassumption

/-- What a part leaves that adds the gathered slot `s` and then waits for the copies of slot `t`. -/
def gatheredStep (A : Ins F) (c : Dev nD) (s t : Fin 6) : sProp 𝕄 :=
  iprop(owe1 (F := F) [] c ∗ (outAt c (src s c, half s) (A.outBlock c (src s c, half s)) ∗ slotAt agM c s (A.rd (src s c) (half s)))
    ∗ (semVal (sendCell 1 t c) 0 ∗ redAt c (half t) (quarter (hop t)) (A.rd c (half t)))
    ∗ (semVal (recvCell 1 t c) 0 ∗ slotAt agM c t (A.rd (src t c) (half t))))

theorem run_p20 {u u' : BitVec 32} {Q : _ → sProp (MT nD τ sig Unit (Elt F) ℕ UU ℕ)} :
    iprop(know A ∗ owe1 (F := F) [] c ∗ (outAt c (src 0 c, half 0) (cut (A.base c) (blocks.box (src 0 c, half 0))) ∗ slotAt agM c 0 (A.rd (src 0 c) (half 0)))
        ∗ inFlight (F := F) 1 4 c ∗ toRecv (F := F) 1 4 c)
      ⊢ iprop((∀ v, gatheredStep A c 0 4 -∗ Q v) -∗ run c (p20 c (my c) u u') Q) := by
  unfold p20
  rw [k0_part20_eq_skeleton]
  unfold k0_part20_skel
  simp only [semSignalWord, semWaitWord, Prog.lift, Prog.bind_op, Prog.bind_ret, Prog.pure_eq_ret]
  iintro ⟨#Hc, Ho, Hb, Hi, Hr⟩ Hk
  iapply (add_gathered (A := A) (c := c) 0 (f := k0_pay43) rfl (off4_src 0 c) rfl) $$ Hb
  iintro Hb
  iapply (sent_red (A := A) (c := c) 4 rfl) $$ [Ho Hi]
  · isplitr; · iexact Hc
    isplitl [Ho]; · iexact Ho
    iexact Hi
  iintro ⟨Ho, Hz, Hs⟩
  iapply (landed_red (A := A) (c := c) 4 rfl) $$ [Ho Hr]
  · isplitr; · iexact Hc
    isplitl [Ho]; · iexact Ho
    iexact Hr
  iintro ⟨Ho, Hy, Ht⟩
  iapply (run_ret Q _ rfl)
  iapply Hk
  unfold gatheredStep
  isplitl [Ho]; · iexact Ho
  isplitl [Hb]; · iexact Hb
  isplitl [Hz Hs]; · isplitl [Hz] <;> iassumption
  isplitl [Hy] <;> iassumption

theorem run_p21 {u u' : BitVec 32} {Q : _ → sProp (MT nD τ sig Unit (Elt F) ℕ UU ℕ)} :
    iprop(know A ∗ owe1 (F := F) [] c ∗ (outAt c (src 4 c, half 4) (cut (A.base c) (blocks.box (src 4 c, half 4))) ∗ slotAt agM c 4 (A.rd (src 4 c) (half 4)))
        ∗ inFlight (F := F) 1 2 c ∗ toRecv (F := F) 1 2 c)
      ⊢ iprop((∀ v, gatheredStep A c 4 2 -∗ Q v) -∗ run c (p21 c (my c) u u') Q) := by
  unfold p21
  rw [k0_part21_eq_skeleton]
  unfold k0_part21_skel
  simp only [semSignalWord, semWaitWord, Prog.lift, Prog.bind_op, Prog.bind_ret, Prog.pure_eq_ret]
  iintro ⟨#Hc, Ho, Hb, Hi, Hr⟩ Hk
  iapply (add_gathered (A := A) (c := c) 4 (f := k0_pay44) rfl (off4_src 4 c) rfl) $$ Hb
  iintro Hb
  iapply (sent_red (A := A) (c := c) 2 rfl) $$ [Ho Hi]
  · isplitr; · iexact Hc
    isplitl [Ho]; · iexact Ho
    iexact Hi
  iintro ⟨Ho, Hz, Hs⟩
  iapply (landed_red (A := A) (c := c) 2 rfl) $$ [Ho Hr]
  · isplitr; · iexact Hc
    isplitl [Ho]; · iexact Ho
    iexact Hr
  iintro ⟨Ho, Hy, Ht⟩
  iapply (run_ret Q _ rfl)
  iapply Hk
  unfold gatheredStep
  isplitl [Ho]; · iexact Ho
  isplitl [Hb]; · iexact Hb
  isplitl [Hz Hs]; · isplitl [Hz] <;> iassumption
  isplitl [Hy] <;> iassumption

theorem run_p22 {u u' : BitVec 32} {Q : _ → sProp (MT nD τ sig Unit (Elt F) ℕ UU ℕ)} :
    iprop(know A ∗ owe1 (F := F) [] c ∗ (outAt c (src 2 c, half 2) (cut (A.base c) (blocks.box (src 2 c, half 2))) ∗ slotAt agM c 2 (A.rd (src 2 c) (half 2)))
        ∗ inFlight (F := F) 1 1 c ∗ toRecv (F := F) 1 1 c)
      ⊢ iprop((∀ v, gatheredStep A c 2 1 -∗ Q v) -∗ run c (p22 c (my c) u u') Q) := by
  unfold p22
  rw [k0_part22_eq_skeleton]
  unfold k0_part22_skel
  simp only [semSignalWord, semWaitWord, Prog.lift, Prog.bind_op, Prog.bind_ret, Prog.pure_eq_ret]
  iintro ⟨#Hc, Ho, Hb, Hi, Hr⟩ Hk
  iapply (add_gathered (A := A) (c := c) 2 (f := k0_pay45) rfl (off4_src 2 c) rfl) $$ Hb
  iintro Hb
  iapply (sent_red (A := A) (c := c) 1 rfl) $$ [Ho Hi]
  · isplitr; · iexact Hc
    isplitl [Ho]; · iexact Ho
    iexact Hi
  iintro ⟨Ho, Hz, Hs⟩
  iapply (landed_red (A := A) (c := c) 1 rfl) $$ [Ho Hr]
  · isplitr; · iexact Hc
    isplitl [Ho]; · iexact Ho
    iexact Hr
  iintro ⟨Ho, Hy, Ht⟩
  iapply (run_ret Q _ rfl)
  iapply Hk
  unfold gatheredStep
  isplitl [Ho]; · iexact Ho
  isplitl [Hb]; · iexact Hb
  isplitl [Hz Hs]; · isplitl [Hz] <;> iassumption
  isplitl [Hy] <;> iassumption

theorem run_p23 {u u' : BitVec 32} {Q : _ → sProp (MT nD τ sig Unit (Elt F) ℕ UU ℕ)} :
    iprop(know A ∗ owe1 (F := F) [] c ∗ (outAt c (src 1 c, half 1) (cut (A.base c) (blocks.box (src 1 c, half 1))) ∗ slotAt agM c 1 (A.rd (src 1 c) (half 1)))
        ∗ inFlight (F := F) 1 5 c ∗ toRecv (F := F) 1 5 c)
      ⊢ iprop((∀ v, gatheredStep A c 1 5 -∗ Q v) -∗ run c (p23 c (my c) u u') Q) := by
  unfold p23
  rw [k0_part23_eq_skeleton]
  unfold k0_part23_skel
  simp only [semSignalWord, semWaitWord, Prog.lift, Prog.bind_op, Prog.bind_ret, Prog.pure_eq_ret]
  iintro ⟨#Hc, Ho, Hb, Hi, Hr⟩ Hk
  iapply (add_gathered (A := A) (c := c) 1 (f := k0_pay46) rfl (off4_src 1 c) rfl) $$ Hb
  iintro Hb
  iapply (sent_red (A := A) (c := c) 5 rfl) $$ [Ho Hi]
  · isplitr; · iexact Hc
    isplitl [Ho]; · iexact Ho
    iexact Hi
  iintro ⟨Ho, Hz, Hs⟩
  iapply (landed_red (A := A) (c := c) 5 rfl) $$ [Ho Hr]
  · isplitr; · iexact Hc
    isplitl [Ho]; · iexact Ho
    iexact Hr
  iintro ⟨Ho, Hy, Ht⟩
  iapply (run_ret Q _ rfl)
  iapply Hk
  unfold gatheredStep
  isplitl [Ho]; · iexact Ho
  isplitl [Hb]; · iexact Hb
  isplitl [Hz Hs]; · isplitl [Hz] <;> iassumption
  isplitl [Hy] <;> iassumption

theorem run_p24 {u u' : BitVec 32} {Q : _ → sProp (MT nD τ sig Unit (Elt F) ℕ UU ℕ)} :
    iprop(know A ∗ owe1 (F := F) [] c ∗ (outAt c (src 5 c, half 5) (cut (A.base c) (blocks.box (src 5 c, half 5))) ∗ slotAt agM c 5 (A.rd (src 5 c) (half 5)))
        ∗ inFlight (F := F) 1 3 c ∗ toRecv (F := F) 1 3 c)
      ⊢ iprop((∀ v, gatheredStep A c 5 3 -∗ Q v) -∗ run c (p24 c (my c) u u') Q) := by
  unfold p24
  rw [k0_part24_eq_skeleton]
  unfold k0_part24_skel
  simp only [semSignalWord, semWaitWord, Prog.lift, Prog.bind_op, Prog.bind_ret, Prog.pure_eq_ret]
  iintro ⟨#Hc, Ho, Hb, Hi, Hr⟩ Hk
  iapply (add_gathered (A := A) (c := c) 5 (f := k0_pay47) rfl (off4_src 5 c) rfl) $$ Hb
  iintro Hb
  iapply (sent_red (A := A) (c := c) 3 rfl) $$ [Ho Hi]
  · isplitr; · iexact Hc
    isplitl [Ho]; · iexact Ho
    iexact Hi
  iintro ⟨Ho, Hz, Hs⟩
  iapply (landed_red (A := A) (c := c) 3 rfl) $$ [Ho Hr]
  · isplitr; · iexact Hc
    isplitl [Ho]; · iexact Ho
    iexact Hr
  iintro ⟨Ho, Hy, Ht⟩
  iapply (run_ret Q _ rfl)
  iapply Hk
  unfold gatheredStep
  isplitl [Ho]; · iexact Ho
  isplitl [Hb]; · iexact Hb
  isplitl [Hz Hs]; · isplitl [Hz] <;> iassumption
  isplitl [Hy] <;> iassumption

end Cert.KernelIdeal.Moe

end
-- ==== Proof.KernelIdeal.Body.lean ====
/-
# The kernel body

The parts in sequence: from the arguments' blocks in the staging buffers, the scratch buffers at any contents and the
tickets of the exchange, the body leaves the output at what the devices compute together, every scratch buffer held
again, and every semaphore of the exchange at zero.
-/
module

public import proofs.«01_k».proof.Proof.KernelIdeal.Parts

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What there is of six slots. -/
abbrev six (Φ : Fin 6 → sProp 𝕄) : sProp 𝕄 := iprop(Φ 0 ∗ Φ 1 ∗ Φ 2 ∗ Φ 3 ∗ Φ 4 ∗ Φ 5)
omit [FloatOps F] in
theorem bigSep_six (Φ : Fin 6 → sProp 𝕄) : bigSep Finset.univ Φ = six Φ := bigSep_univ_eq_bigSepL [0, 1, 2, 3, 4, 5] (by decide) (by decide) Φ
omit [FloatOps F] in
theorem bigSep_two (Φ : Fin 2 → sProp 𝕄) : bigSep Finset.univ Φ = iprop(Φ 0 ∗ Φ 1) := bigSep_univ_eq_bigSepL [0, 1] (by decide) (by decide) Φ
omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-! ## The scratch buffers by slots -/

theorem part_slots (c : Dev nD) (X : Vec F S6x64x512 .bf16) : (hold c partM X : sProp 𝕄) ⊢ six fun s => slotAt partM c s (cut X (slots.box s)) :=
  Entails.of_eq ((hold_boxes c cc0_scratch0 slots X).trans (bigSep_six _))
theorem slots_part (c : Dev nD) (X : Fin 6 → Vec F S1x64x512 .bf16) : (six fun s => slotAt partM c s (X s)) ⊢ (iprop(∃ Y, hold c partM Y) : sProp 𝕄) := by
  refine BIBase.Entails.trans (Entails.of_eq ((bigSep_six _).symm.trans (boxes_hold c cc0_scratch0 slots X))) ?_
  iintro H; iexists _; iexact H
theorem rs_slots (c : Dev nD) (X : Vec F S6x64x512 .bf16) : (hold c rsM X : sProp 𝕄) ⊢ six fun s => slotAt rsM c s (cut X (slots.box s)) :=
  Entails.of_eq ((hold_boxes c cc0_scratch1 slots X).trans (bigSep_six _))
theorem slots_rs (c : Dev nD) (X : Fin 6 → Vec F S1x64x512 .bf16) : (six fun s => slotAt rsM c s (X s)) ⊢ (iprop(∃ Y, hold c rsM Y) : sProp 𝕄) := by
  refine BIBase.Entails.trans (Entails.of_eq ((bigSep_six _).symm.trans (boxes_hold c cc0_scratch1 slots X))) ?_
  iintro H; iexists _; iexact H
theorem ag_slots (c : Dev nD) (X : Vec F S6x64x512 .bf16) : (hold c agM X : sProp 𝕄) ⊢ six fun s => slotAt agM c s (cut X (slots.box s)) :=
  Entails.of_eq ((hold_boxes c cc0_scratch2 slots X).trans (bigSep_six _))
theorem slots_ag (c : Dev nD) (X : Fin 6 → Vec F S1x64x512 .bf16) : (six fun s => slotAt agM c s (X s)) ⊢ (iprop(∃ Y, hold c agM Y) : sProp 𝕄) := by
  refine BIBase.Entails.trans (Entails.of_eq ((bigSep_six _).symm.trans (boxes_hold c cc0_scratch2 slots X))) ?_
  iintro H; iexists _; iexact H
theorem red_halves (c : Dev nD) (X : Vec F S2x64x512 .bf16) : (hold c redM X : sProp 𝕄)
    ⊢ iprop(redAt c 0 fullShare (cut X (halves.box 0)) ∗ redAt c 1 fullShare (cut X (halves.box 1))) :=
  Entails.of_eq ((hold_boxes c cc0_scratch3 halves X).trans (bigSep_two _))
theorem halves_red (c : Dev nD) (X : Fin 2 → Vec F S1x64x512 .bf16) : iprop(redAt c 0 fullShare (X 0) ∗ redAt c 1 fullShare (X 1)) ⊢ (iprop(∃ Y, hold c redM Y) : sProp 𝕄) := by
  refine BIBase.Entails.trans (Entails.of_eq ((bigSep_two _).symm.trans (boxes_hold c cc0_scratch3 halves X))) ?_
  iintro H; iexists _; iexact H
theorem ewb_boxes (c : Dev nD) (X : Vec F S1024x512 .bf16) : (hold c ewbM X : sProp 𝕄)
    ⊢ iprop(ewbAt c 0 (cut X (experts.box 0)) ∗ ewbAt c 1 (cut X (experts.box 1)) ∗ ewbAt c 2 (cut X (experts.box 2)) ∗ ewbAt c 3 (cut X (experts.box 3))) :=
  Entails.of_eq ((hold_boxes c cc0_scratch4 experts X).trans (bigSep_four _))
/-- The output's blocks put together. -/
theorem blocks_out (A : Ins F) (c : Dev nD) :
    iprop(outAt c (src 0 c, half 0) (A.outBlock c (src 0 c, half 0)) ∗ outAt c (src 1 c, half 1) (A.outBlock c (src 1 c, half 1))
      ∗ outAt c (src 2 c, half 2) (A.outBlock c (src 2 c, half 2)) ∗ outAt c (src 3 c, half 3) (A.outBlock c (src 3 c, half 3))
      ∗ outAt c (src 4 c, half 4) (A.outBlock c (src 4 c, half 4)) ∗ outAt c (src 5 c, half 5) (A.outBlock c (src 5 c, half 5))
      ∗ outAt c (c, 0) (A.outBlock c (c, 0)) ∗ outAt c (c, 1) (A.outBlock c (c, 1))) ⊢ (hold c outM (A.out c) : sProp 𝕄) :=
  Entails.of_eq ((blocks_list c _).symm.trans (boxes_hold c cc0_stg5_0 blocks (A.outBlock c)))

/-! ## What the body starts from and leaves -/

/-- The arguments' blocks, in the staging buffers. -/
def inputs (A : Ins F) (c : Dev nD) : sProp 𝕄 :=
  iprop(hold c xM (A.x c) ∗ hold c rwM (A.rw c) ∗ hold c ixM (A.ix c) ∗ hold c ewM (A.ew c) ∗ hold c swM (A.sw c))
/-- The scratch buffers, at any contents. -/
def scratch (c : Dev nD) : sProp 𝕄 :=
  iprop((∃ X, hold (F := F) c partM X) ∗ (∃ X, hold (F := F) c rsM X) ∗ (∃ X, hold (F := F) c agM X) ∗ (∃ X, hold (F := F) c redM X)
    ∗ (∃ X, hold (F := F) c ewbM X) ∗ (∃ X, hold (F := F) c swbM X) ∗ (∃ X, hold (F := F) c gateM X))
/-- The tickets of the exchange. -/
def tickets (c : Dev nD) : sProp 𝕄 :=
  iprop((dutyTok ER (barCell (up 1 c)) 0 2 ∗ dutyTok ER (barCell (up 2 c)) 0 1 ∗ dutyTok ER (barCell (up 3 c)) 0 0)
    ∗ (cred (tallyAt (barCell c) () 3) ∗ atPos ER (barCell c) 0 ∅ 0)
    ∗ six (fun s => toSend 0 s c) ∗ six (fun s => toSend 1 s c) ∗ six (fun s => toRecv 0 s c) ∗ six (fun s => toRecv 1 s c))
/-- The semaphores of the exchange, at zero. -/
def drained (c : Dev nD) : sProp 𝕄 :=
  iprop(semVal (barCell c) 0 ∗ six (fun s => semVal (sendCell 0 s c) 0) ∗ six (fun s => semVal (recvCell 0 s c) 0)
    ∗ six (fun s => semVal (sendCell 1 s c) 0) ∗ six (fun s => semVal (recvCell 1 s c) 0))

variable {A : Ins F} {c : Dev nD}

/-- A program in sequence. -/
theorem run_bind {α β : Type} (p : Prog (TpuEff nD τ sig (Elt F) Λ₀ .tc) α) (k : α → Prog (TpuEff nD τ sig (Elt F) Λ₀ .tc) β)
    (Q : β → sProp (MT nD τ sig Unit (Elt F) ℕ UU ℕ)) : run c p (fun a => run c (k a) Q) ⊢ run c (p >>= k) Q :=
  Entails.of_eq (wp_bind _ _ _ p k Q).symm

abbrev body : Prog (TpuEff nD τ sig (Elt F) Λ₀ .tc) PUnit := cc0_body (F := F) xM (Memref.isWhole_whole _) rwM (Memref.isWhole_whole _) ixM (Memref.isWhole_whole _) ewM (Memref.isWhole_whole _) swM (Memref.isWhole_whole _) outM (Memref.isWhole_whole _) partM (Memref.isWhole_whole _) rsM (Memref.isWhole_whole _) agM (Memref.isWhole_whole _) redM (Memref.isWhole_whole _) ewbM (Memref.isWhole_whole _) swbM (Memref.isWhole_whole _) gateM (Memref.isWhole_whole _) cc0_scratch7 cc0_scratch8 cc0_scratch9 cc0_scratch10

/-- The body on device `c`. -/
theorem run_body {Q : _ → sProp (MT nD τ sig Unit (Elt F) ℕ UU ℕ)} :
    iprop(know A ∗ owesL (F := F) c (dueBar c ++ (dueCopies 0 order0 c ++ dueCopies 1 order1 c)) ∗ tickets c ∗ inputs A c ∗ scratch (F := F) c ∗ (∃ Y, hold c outM Y))
      ⊢ iprop((iprop(owesL (F := F) c [] ∗ drained c ∗ inputs A c ∗ scratch (F := F) c ∗ hold c outM (A.out c)) -∗ Q ⟨⟩) -∗ run c body Q) := by
  unfold body
  rw [cc0_body_eq_skeleton]
  unfold cc0_body_skel tickets scratch
  iintro ⟨#Hc, Ho, ⟨⟨Hb1, Hb2, Hb3⟩, ⟨Hbc, Hba⟩, ⟨S0, S1, S2, S3, S4, S5⟩, ⟨T0, T1, T2, T3, T4, T5⟩, ⟨R0, R1, R2, R3, R4, R5⟩, ⟨U0, U1, U2, U3, U4, U5⟩⟩, Hin, ⟨⟨%X1, Hp⟩, ⟨%X2, Hrs⟩, ⟨%X3, Hag⟩, ⟨%X4, Hrd⟩, ⟨%X5, Hw⟩, ⟨%X6, Hsw⟩, ⟨%X7, Hg⟩⟩, ⟨%Y, Hout⟩⟩ Hk
  unfold inputs
  icases Hin with ⟨Ix, Irw, Iix, Iew, Isw⟩
  ihave Hp' := (part_slots c X1) $$ Hp
  icases Hp' with ⟨P0, P1, P2, P3, P4, P5⟩
  ihave Hrs' := (rs_slots c X2) $$ Hrs
  icases Hrs' with ⟨A0, A1, A2, A3, A4, A5⟩
  ihave Hag' := (ag_slots c X3) $$ Hag
  icases Hag' with ⟨G0, G1, G2, G3, G4, G5⟩
  ihave Hrd' := (red_halves c X4) $$ Hrd
  icases Hrd' with ⟨D0, D1⟩
  ihave Hw' := (ewb_boxes c X5) $$ Hw
  icases Hw' with ⟨W0, W1, W2, W3⟩
  ihave L0 : landing (F := F) c 0 $$ [A0 A1 G0 G1]
  · unfold landing
    isplitl [A0]; · iexists _; iexact A0
    isplitl [A1]; · iexists _; iexact A1
    isplitl [G0]; · iexists _; iexact G0
    iexists _; iexact G1
  ihave L1 : landing (F := F) c 1 $$ [A2 A3 G2 G3]
  · unfold landing
    isplitl [A2]; · iexists _; iexact A2
    isplitl [A3]; · iexists _; iexact A3
    isplitl [G2]; · iexists _; iexact G2
    iexists _; iexact G3
  ihave L2 : landing (F := F) c 2 $$ [A4 A5 G4 G5]
  · unfold landing
    isplitl [A4]; · iexists _; iexact A4
    isplitl [A5]; · iexists _; iexact A5
    isplitl [G4]; · iexists _; iexact G4
    iexists _; iexact G5
  iapply (run_bind (c := c) _ _ Q)
  iapply (run_p1 (A := A) (c := c)) $$ [Ho Hb1 Hb2 Hb3 L0 L1 L2 Iew W0 W1]
  · isplitr; · iexact Hc
    isplitl [Ho]; · iexact Ho
    isplitl [Hb1]; · iexact Hb1
    isplitl [Hb2]; · iexact Hb2
    isplitl [Hb3]; · iexact Hb3
    isplitl [L0]; · iexact L0
    isplitl [L1]; · iexact L1
    isplitl [L2]; · iexact L2
    isplitl [Iew]; · iexact Iew
    isplitl [W0]; · iexact W0
    iexact W1
  iintro ⟨Ho, Iew, W0, W1⟩
  try dsimp only
  iapply (run_bind (c := c) _ _ Q)
  iapply (run_p2 (A := A) (c := c)) $$ [Iew W0 W1 W2 W3 Isw Hsw Ix Irw]
  · isplitl [Iew]; · iexact Iew
    isplitl [W0]; · iexact W0
    isplitl [W1]; · iexact W1
    isplitl [W2]; · iexact W2
    isplitl [W3]; · iexact W3
    isplitl [Isw]; · iexact Isw
    isplitl [Hsw]; · iexact Hsw
    isplitl [Ix]; · iexact Ix
    iexact Irw
  iintro ⟨Iew, Hw, Isw, Hsw, Ix, Irw⟩
  try dsimp only
  iapply (run_bind (c := c) _ _ Q)
  iapply (run_p3 (A := A) (c := c)) $$ [Ho Hbc Hba Ix Iix Hg]
  · isplitr; · iexact Hc
    isplitl [Ho]; · iexact Ho
    isplitl [Hbc]; · iexact Hbc
    isplitl [Hba]; · iexact Hba
    isplitl [Ix]; · iexact Ix
    isplitl [Iix]; · iexact Iix
    iexact Hg
  iintro ⟨Ho, Zb, L0, L1, L2, Hf⟩
  try dsimp only
  ihave L0' := (show landing (F := F) (up 1 c) 0 ⊢ iprop(room0 (F := F) 0 c ∗ room0 (F := F) 1 c ∗ room1 (F := F) 0 c ∗ room1 (F := F) 1 c) from landing_rooms c 0) $$ L0
  icases L0' with ⟨Q0, Q1, V0, V1⟩
  ihave L1' := (show landing (F := F) (up 2 c) 1 ⊢ iprop(room0 (F := F) 2 c ∗ room0 (F := F) 3 c ∗ room1 (F := F) 2 c ∗ room1 (F := F) 3 c) from landing_rooms c 1) $$ L1
  icases L1' with ⟨Q2, Q3, V2, V3⟩
  ihave L2' := (show landing (F := F) (up 3 c) 2 ⊢ iprop(room0 (F := F) 4 c ∗ room0 (F := F) 5 c ∗ room1 (F := F) 4 c ∗ room1 (F := F) 5 c) from landing_rooms c 2) $$ L2
  icases L2' with ⟨Q4, Q5, V4, V5⟩
  iapply (run_bind (c := c) _ _ Q)
  iapply (run_p4 (A := A) (c := c)) $$ [Hw P2]
  · isplitl [Hw]; · iexact Hw
    iexact P2
  iintro %v4_0
  iintro ⟨Hw, P2⟩
  try dsimp only
  iapply (run_bind (c := c) _ _ Q)
  iapply (run_p5 (A := A) (c := c)) $$ [Ho P2 P3 Q2 Q3 S2 S3 Hf]
  · isplitr; · iexact Hc
    isplitl [Ho]; · iexact Ho
    isplitl [P2]; · iexact P2
    isplitl [P3]; · iexact P3
    isplitl [Q2]; · iexact Q2
    isplitl [Q3]; · iexact Q3
    isplitl [S2]; · iexact S2
    isplitl [S3]; · iexact S3
    iexact Hf
  iintro %v5_0
  iintro ⟨Ho, S2, S3, Hf⟩
  try dsimp only
  iapply (run_bind (c := c) _ _ Q)
  iapply (run_p6 (A := A) (c := c)) $$ [Hw P0]
  · isplitl [Hw]; · iexact Hw
    iexact P0
  iintro %v6_0
  iintro ⟨Hw, P0⟩
  try dsimp only
  iapply (run_bind (c := c) _ _ Q)
  iapply (run_p7 (A := A) (c := c)) $$ [Ho P0 P1 Q0 Q1 S0 S1]
  · isplitr; · iexact Hc
    isplitl [Ho]; · iexact Ho
    isplitl [P0]; · iexact P0
    isplitl [P1]; · iexact P1
    isplitl [Q0]; · iexact Q0
    isplitl [Q1]; · iexact Q1
    isplitl [S0]; · iexact S0
    iexact S1
  iintro %v7_0 %v7_1 %v7_2 %v7_3
  iintro ⟨Ho, S0, S1⟩
  try dsimp only
  iapply (run_bind (c := c) _ _ Q)
  iapply (run_p8 (A := A) (c := c)) $$ [Hf]
  · iexact Hf
  iintro Hf
  try dsimp only
  iapply (run_bind (c := c) _ _ Q)
  iapply (run_p9 (A := A) (c := c)) $$ [Ho Hw P4 P5 Q4 S4]
  · isplitr; · iexact Hc
    isplitl [Ho]; · iexact Ho
    isplitl [Hw]; · iexact Hw
    isplitl [P4]; · iexact P4
    isplitl [P5]; · iexact P5
    isplitl [Q4]; · iexact Q4
    iexact S4
  iintro %v9_0 %v9_1 %v9_2
  iintro ⟨Ho, Hw, S4, P5⟩
  try dsimp only
  iapply (run_bind (c := c) _ _ Q)
  iapply (run_p10 (A := A) (c := c)) $$ [Ho P5 Q5 S5 Hf]
  · isplitr; · iexact Hc
    isplitl [Ho]; · iexact Ho
    isplitl [P5]; · iexact P5
    isplitl [Q5]; · iexact Q5
    isplitl [S5]; · iexact S5
    iexact Hf
  iintro ⟨Ho, S5, Hf⟩
  try dsimp only
  iapply (run_bind (c := c) _ _ Q)
  iapply (run_p11 (A := A) (c := c)) $$ [Ho Hw S0]
  · isplitr; · iexact Hc
    isplitl [Ho]; · iexact Ho
    isplitl [Hw]; · iexact Hw
    iexact S0
  iintro ⟨Ho, Hw, Z0, P0⟩
  try dsimp only
  iapply (run_bind (c := c) _ _ Q)
  iapply (run_p12 (A := A) (c := c)) $$ [Ho R0 S4 R4 S2]
  · isplitr; · iexact Hc
    isplitl [Ho]; · iexact Ho
    isplitl [R0]; · iexact R0
    isplitl [S4]; · iexact S4
    isplitl [R4]; · iexact R4
    iexact S2
  iintro %v12_0 %v12_1
  iintro ⟨Ho, ⟨Y0, A0⟩, ⟨Z4, P4⟩, ⟨Y4, A4⟩, Z2, P2⟩
  try dsimp only
  iapply (run_bind (c := c) _ _ Q)
  iapply (run_p13 (A := A) (c := c)) $$ [Ho R2 A0 A4 D0]
  · isplitr; · iexact Hc
    isplitl [Ho]; · iexact Ho
    isplitl [R2]; · iexact R2
    isplitl [A0]; · iexact A0
    isplitl [A4]; · iexact A4
    iexact D0
  iintro %v13_0
  iintro ⟨Ho, Y2, A0, A2, A4, D0⟩
  try dsimp only
  ihave D0' := (red_split (c := c) 0 (A.rd c 0)).1 $$ D0
  icases D0' with ⟨⟨D00, D01⟩, D02, D03⟩
  iapply (run_bind (c := c) _ _ Q)
  iapply (run_p14 (A := A) (c := c)) $$ [Ho D00 D01 D02 V0 V2 V4 T0 T2 T4]
  · isplitr; · iexact Hc
    isplitl [Ho]; · iexact Ho
    isplitl [D00 D01 D02]
    · isplitl [D00]; · iexact D00
      isplitl [D01]; · iexact D01
      iexact D02
    isplitl [V0 V2 V4]
    · isplitl [V0]; · iexact V0
      isplitl [V2]; · iexact V2
      iexact V4
    isplitl [T0]; · iexact T0
    isplitl [T2]; · iexact T2
    iexact T4
  iintro %v14_0 %v14_1
  iintro ⟨Ho, T0, T2, T4⟩
  try dsimp only
  iapply (run_bind (c := c) _ _ Q)
  iapply (run_p15 (A := A) (c := c)) $$ [Ho S1 R1 S5]
  · isplitr; · iexact Hc
    isplitl [Ho]; · iexact Ho
    isplitl [S1]; · iexact S1
    isplitl [R1]; · iexact R1
    iexact S5
  iintro ⟨Ho, ⟨Z1, P1⟩, ⟨Y1, A1⟩, Z5, P5⟩
  try dsimp only
  iapply (run_bind (c := c) _ _ Q)
  iapply (run_p16 (A := A) (c := c)) $$ [Ho R5 S3 R3 A1]
  · isplitr; · iexact Hc
    isplitl [Ho]; · iexact Ho
    isplitl [R5]; · iexact R5
    isplitl [S3]; · iexact S3
    isplitl [R3]; · iexact R3
    iexact A1
  iintro ⟨Ho, ⟨Y5, A5⟩, ⟨Z3, P3⟩, ⟨Y3, A3⟩, A1⟩
  try dsimp only
  iapply (run_bind (c := c) _ _ Q)
  iapply (run_p17 (A := A) (c := c)) $$ [Ho A5 D1 V3 T3]
  · isplitr; · iexact Hc
    isplitl [Ho]; · iexact Ho
    isplitl [A5]; · iexact A5
    isplitl [D1]; · iexact D1
    isplitl [V3]; · iexact V3
    iexact T3
  iintro %v17_0 %v17_1
  iintro ⟨Ho, A5, T3, D10, D12, D13⟩
  try dsimp only
  iapply (run_bind (c := c) _ _ Q)
  iapply (run_p18 (A := A) (c := c)) $$ [Ho D10 D12 D03 V1 V5 T1 T5 Hsw Hout]
  · isplitr; · iexact Hc
    isplitl [Ho]; · iexact Ho
    isplitl [D10]; · iexact D10
    isplitl [D12]; · iexact D12
    isplitl [D03]; · iexact D03
    isplitl [V1 V5]
    · isplitl [V1]; · iexact V1
      iexact V5
    isplitl [T1 T5]
    · isplitl [T1]; · iexact T1
      iexact T5
    isplitl [Hsw]; · iexact Hsw
    iexact Hout
  iintro %v18_0 %v18_1
  iintro ⟨Ho, T1, T5, D03, Hsw, C0, C1, B0, B1, B2, B3, B4, B5⟩
  try dsimp only
  iapply (run_bind (c := c) _ _ Q)
  iapply (run_p19 (A := A) (c := c)) $$ [Ho D13 C1 T0 U0]
  · isplitr; · iexact Hc
    isplitl [Ho]; · iexact Ho
    isplitl [D13]; · iexact D13
    isplitl [C1]; · iexact C1
    isplitl [T0]; · iexact T0
    iexact U0
  iintro %v19_0
  iintro ⟨Ho, D13, C1, ⟨X0, D00⟩, K0, G0⟩
  try dsimp only
  iapply (run_bind (c := c) _ _ Q)
  iapply (run_p20 (A := A) (c := c)) $$ [Ho B0 G0 T4 U4]
  · isplitr; · iexact Hc
    isplitl [Ho]; · iexact Ho
    isplitl [B0 G0]
    · isplitl [B0]; · iexact B0
      iexact G0
    isplitl [T4]; · iexact T4
    iexact U4
  iintro %v20_0
  iintro H
  try dsimp only
  unfold gatheredStep
  icases H with ⟨Ho, ⟨B0, G0⟩, ⟨X4, D02⟩, K4, G4⟩
  iapply (run_bind (c := c) _ _ Q)
  iapply (run_p21 (A := A) (c := c)) $$ [Ho B4 G4 T2 U2]
  · isplitr; · iexact Hc
    isplitl [Ho]; · iexact Ho
    isplitl [B4 G4]
    · isplitl [B4]; · iexact B4
      iexact G4
    isplitl [T2]; · iexact T2
    iexact U2
  iintro %v21_0
  iintro H
  try dsimp only
  unfold gatheredStep
  icases H with ⟨Ho, ⟨B4, G4⟩, ⟨X2, D01⟩, K2, G2⟩
  iapply (run_bind (c := c) _ _ Q)
  iapply (run_p22 (A := A) (c := c)) $$ [Ho B2 G2 T1 U1]
  · isplitr; · iexact Hc
    isplitl [Ho]; · iexact Ho
    isplitl [B2 G2]
    · isplitl [B2]; · iexact B2
      iexact G2
    isplitl [T1]; · iexact T1
    iexact U1
  iintro %v22_0
  iintro H
  try dsimp only
  unfold gatheredStep
  icases H with ⟨Ho, ⟨B2, G2⟩, ⟨X1, D10⟩, K1, G1⟩
  iapply (run_bind (c := c) _ _ Q)
  iapply (run_p23 (A := A) (c := c)) $$ [Ho B1 G1 T5 U5]
  · isplitr; · iexact Hc
    isplitl [Ho]; · iexact Ho
    isplitl [B1 G1]
    · isplitl [B1]; · iexact B1
      iexact G1
    isplitl [T5]; · iexact T5
    iexact U5
  iintro %v23_0
  iintro H
  try dsimp only
  unfold gatheredStep
  icases H with ⟨Ho, ⟨B1, G1⟩, ⟨X5, D12⟩, K5, G5⟩
  iapply (run_bind (c := c) _ _ Q)
  iapply (run_p24 (A := A) (c := c)) $$ [Ho B5 G5 T3 U3]
  · isplitr; · iexact Hc
    isplitl [Ho]; · iexact Ho
    isplitl [B5 G5]
    · isplitl [B5]; · iexact B5
      iexact G5
    isplitl [T3]; · iexact T3
    iexact U3
  iintro %v24_0
  iintro H
  try dsimp only
  unfold gatheredStep
  icases H with ⟨Ho, ⟨B5, G5⟩, ⟨X3, D11⟩, K3, G3⟩
  simp only [Prog.lift, Prog.bind_op, Prog.bind_ret, Prog.pure_eq_ret]
  iapply (add_gathered (A := A) (c := c) 3 (f := k0_pay1) rfl (off4_src 3 c) rfl) $$ [B3 G3]
  · isplitl [B3]; · iexact B3
    iexact G3
  iintro ⟨B3, G3⟩
  iapply (run_ret Q _ rfl)
  iapply Hk
  isplitl [Ho]; · iexact Ho
  unfold drained
  isplitl [Zb Z0 Z1 Z2 Z3 Z4 Z5 Y0 Y1 Y2 Y3 Y4 Y5 X0 X1 X2 X3 X4 X5 K0 K1 K2 K3 K4 K5]
  · isplitl [Zb]; · iexact Zb
    isplitl [Z0 Z1 Z2 Z3 Z4 Z5]
    · isplitl [Z0]; · iexact Z0
      isplitl [Z1]; · iexact Z1
      isplitl [Z2]; · iexact Z2
      isplitl [Z3]; · iexact Z3
      isplitl [Z4]; · iexact Z4
      iexact Z5
    isplitl [Y0 Y1 Y2 Y3 Y4 Y5]
    · isplitl [Y0]; · iexact Y0
      isplitl [Y1]; · iexact Y1
      isplitl [Y2]; · iexact Y2
      isplitl [Y3]; · iexact Y3
      isplitl [Y4]; · iexact Y4
      iexact Y5
    isplitl [X0 X1 X2 X3 X4 X5]
    · isplitl [X0]; · iexact X0
      isplitl [X1]; · iexact X1
      isplitl [X2]; · iexact X2
      isplitl [X3]; · iexact X3
      isplitl [X4]; · iexact X4
      iexact X5
    isplitl [K0]; · iexact K0
    isplitl [K1]; · iexact K1
    isplitl [K2]; · iexact K2
    isplitl [K3]; · iexact K3
    isplitl [K4]; · iexact K4
    iexact K5
  unfold feed
  icases Hf with ⟨Ix, Iix, Hg⟩
  isplitl [Ix Irw Iix Iew Isw]
  · isplitl [Ix]; · iexact Ix
    isplitl [Irw]; · iexact Irw
    isplitl [Iix]; · iexact Iix
    isplitl [Iew]; · iexact Iew
    iexact Isw
  isplitl [P0 P1 P2 P3 P4 P5 A0 A1 A2 A3 A4 A5 G0 G1 G2 G3 G4 G5 D00 D01 D02 D03 D10 D11 D12 D13 Hw Hsw Hg]
  · isplitl [P0 P1 P2 P3 P4 P5]
    · iapply (slots_part c fun s => A.pt c s)
      isplitl [P0]; · iexact P0
      isplitl [P1]; · iexact P1
      isplitl [P2]; · iexact P2
      isplitl [P3]; · iexact P3
      isplitl [P4]; · iexact P4
      iexact P5
    isplitl [A0 A1 A2 A3 A4 A5]
    · iapply (slots_rs c fun s => A.pt (src s c) s)
      isplitl [A0]; · iexact A0
      isplitl [A1]; · iexact A1
      isplitl [A2]; · iexact A2
      isplitl [A3]; · iexact A3
      isplitl [A4]; · iexact A4
      iexact A5
    isplitl [G0 G1 G2 G3 G4 G5]
    · iapply (slots_ag c fun s => A.rd (src s c) (half s))
      isplitl [G0]; · iexact G0
      isplitl [G1]; · iexact G1
      isplitl [G2]; · iexact G2
      isplitl [G3]; · iexact G3
      isplitl [G4]; · iexact G4
      iexact G5
    isplitl [D00 D01 D02 D03 D10 D11 D12 D13]
    · iapply (halves_red c fun h => A.rd c h)
      isplitl [D00 D01 D02 D03]
      · iapply (red_split (c := c) 0 (A.rd c 0)).2
        isplitl [D00 D01]
        · isplitl [D00]; · iexact D00
          iexact D01
        isplitl [D02]; · iexact D02
        iexact D03
      iapply (red_split (c := c) 1 (A.rd c 1)).2
      isplitl [D10 D11]
      · isplitl [D10]; · iexact D10
        iexact D11
      isplitl [D12]; · iexact D12
      iexact D13
    isplitl [Hw]; · iexists _; iexact Hw
    isplitl [Hsw]; · iexists _; iexact Hsw
    iexists _; iexact Hg
  iapply (blocks_out A c)
  isplitl [B0]; · iexact B0
  isplitl [B1]; · iexact B1
  isplitl [B2]; · iexact B2
  isplitl [B3]; · iexact B3
  isplitl [B4]; · iexact B4
  isplitl [B5]; · iexact B5
  isplitl [C0]; · iexact C0
  iexact C1

end Cert.KernelIdeal.Moe

end
-- ==== Proof.KernelIdeal.Ghost.lean ====
/-
# The exchange at the launch

The launch makes the record of every cell, deals each device the tokens of its own cells, and gives it the right to wait
for what the others owe it. Here the tokens go round the ring to the devices that pay them, and every device gets what
its body starts from.
-/
module

public import proofs.«01_k».proof.Proof.KernelIdeal.Body
public import proofs.«01_k».proof.Proof.Gen.KernelIdeal.Launch

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens, counted -/

/-- The exchange's own semaphores: the 24 of the four arrays. -/
abbrev osem : Fin 24 → SemLoc sig := fun i => .dma (⟨6 + i.val, by omega⟩ : Fin 30)

theorem ownSemFacts : Pipeline.OwnSemFacts cfg0.spec osem := by decide

theorem csem_injective : Function.Injective csem := by
  intro i j h
  by_contra hne
  revert h
  revert i j
  decide

theorem kcell_injective : Function.Injective (kcell : Dev nD × Fin 25 → GSem nD τ sig) := by
  rintro ⟨c, i⟩ ⟨d, j⟩ h
  have h1 : c = d := congrArg (fun g : GSem nD τ sig => g.1.1) h
  have h2 : i = j := csem_injective (congrArg Prod.snd h)
  rw [h1, h2]

/-- All cells of the exchange. -/
def cells : Finset (GSem nD τ sig) := Finset.univ.map ⟨kcell, kcell_injective⟩

/-- The duties of a device's own cells: one of each of the 24, and the barrier's three. -/
abbrev tokOf (x : Dev nD × Fin 27) : GSem nD τ sig × ℕ × Fin 3 :=
  (kcell (x.1, ⟨min x.2.val 24, by omega⟩), 0, ⟨x.2.val - 24, by omega⟩)

theorem tokOf_injective : Function.Injective tokOf := by
  rintro ⟨c, i⟩ ⟨d, j⟩ h
  have hc := kcell_injective (congrArg Prod.fst h)
  have h1 : c = d := congrArg Prod.fst hc
  have h2 : min i.val 24 = min j.val 24 := congrArg (fun x : Dev nD × Fin 25 => x.2.val) hc
  have h3 : i.val - 24 = j.val - 24 := congrArg (fun x : GSem nD τ sig × ℕ × Fin 3 => x.2.2.val) h
  have h4 : i = j := Fin.ext (by omega)
  rw [h1, h4]

def tokens : Finset (GSem nD τ sig × ℕ × Fin 3) := Finset.univ.map ⟨tokOf, tokOf_injective⟩

/-! ## A device's cells one by one -/

omit [FloatOps F] in
theorem sep_regroup (P Q R : sProp 𝕄) : iprop((P ∗ Q) ∗ R) = iprop(P ∗ Q ∗ R) := BI.Entails.antisymm BI.sep_assoc BI.sep_assoc'

/-- Something of each of a device's 25 cells. -/
def eachCell (Ψ : GSem nD τ sig → sProp 𝕄) (c : Dev nD) : sProp 𝕄 :=
  iprop(six (fun s => Ψ (sendCell 0 s c)) ∗ six (fun s => Ψ (recvCell 0 s c)) ∗ six (fun s => Ψ (sendCell 1 s c)) ∗ six (fun s => Ψ (recvCell 1 s c))
    ∗ Ψ (barCell c))

omit [FloatOps F] in
theorem eachCell_eq (Ψ : GSem nD τ sig → sProp 𝕄) (c : Dev nD) : (bigSep Finset.univ fun i : Fin 25 => Ψ (kcell (c, i))) = eachCell Ψ c := by
  rw [bigSep_univ_eq_bigSepL (List.finRange 25) (by decide) (by decide)]
  unfold eachCell six
  simp only [sep_regroup]
  rfl

/-- The tokens of a device's own cells; -/
def ownToks (c : Dev nD) : sProp 𝕄 :=
  iprop((six (fun s => dutyTok ER (sendCell 0 s c) 0 0) ∗ six (fun s => dutyTok ER (recvCell 0 s c) 0 0)
      ∗ six (fun s => dutyTok ER (sendCell 1 s c) 0 0) ∗ six (fun s => dutyTok ER (recvCell 1 s c) 0 0))
    ∗ dutyTok ER (barCell c) 0 0 ∗ dutyTok ER (barCell c) 0 1 ∗ dutyTok ER (barCell c) 0 2)
/-- the tokens that a device pays. -/
def payToks (c : Dev nD) : sProp 𝕄 :=
  iprop((six (fun s => dutyTok ER (sendCell 0 s c) 0 0) ∗ six (fun s => dutyTok ER (recvCell 0 s (dst s c)) 0 0)
      ∗ six (fun s => dutyTok ER (sendCell 1 s c) 0 0) ∗ six (fun s => dutyTok ER (recvCell 1 s (dst s c)) 0 0))
    ∗ dutyTok ER (barCell (up 3 c)) 0 0 ∗ dutyTok ER (barCell (up 2 c)) 0 1 ∗ dutyTok ER (barCell (up 1 c)) 0 2)

omit [FloatOps F] in
theorem ownToks_eq (c : Dev nD) :
    (bigSep Finset.univ fun i : Fin 27 => dutyTok ER (tokOf (c, i)).1 (tokOf (c, i)).2.1 (tokOf (c, i)).2.2) = (ownToks c : sProp 𝕄) := by
  rw [bigSep_univ_eq_bigSepL (List.finRange 27) (by decide) (by decide)]
  unfold ownToks six
  simp only [sep_regroup]
  rfl

/-- The ring's rotations. -/
def dstEquiv (s : Fin 6) : Dev nD ≃ Dev nD := ⟨dst s, src s, src_dst s, dst_src s⟩
def upEquiv (n : Fin 5) : Dev nD ≃ Dev nD :=
  ⟨up n, up (4 - n), by intro c; revert n c; decide, by intro c; revert n c; decide⟩

omit [FloatOps F] in
theorem six_around (Φ : Fin 6 → Dev nD → sProp 𝕄) :
    (bigSep Finset.univ fun c => six fun s => Φ s c) = bigSep Finset.univ fun c => six fun s => Φ s (dst s c) := by
  unfold six
  simp only [bigSep_sep']
  rw [bigSep_univ_equiv (dstEquiv 0) (Φ 0), bigSep_univ_equiv (dstEquiv 1) (Φ 1), bigSep_univ_equiv (dstEquiv 2) (Φ 2),
    bigSep_univ_equiv (dstEquiv 3) (Φ 3), bigSep_univ_equiv (dstEquiv 4) (Φ 4), bigSep_univ_equiv (dstEquiv 5) (Φ 5)]
  rfl

omit [FloatOps F] in
theorem seven_over (P₁ P₂ P₃ P₄ P₅ P₆ P₇ : Dev nD → sProp 𝕄) :
    (bigSep Finset.univ fun c => iprop((P₁ c ∗ P₂ c ∗ P₃ c ∗ P₄ c) ∗ P₅ c ∗ P₆ c ∗ P₇ c))
      = iprop((bigSep Finset.univ P₁ ∗ bigSep Finset.univ P₂ ∗ bigSep Finset.univ P₃ ∗ bigSep Finset.univ P₄)
        ∗ bigSep Finset.univ P₅ ∗ bigSep Finset.univ P₆ ∗ bigSep Finset.univ P₇) := by
  simp only [bigSep_sep']

omit [FloatOps F] in
/-- The tokens dealt round the ring. -/
theorem toks_around : (bigSep Finset.univ fun c : Dev nD => (ownToks c : sProp 𝕄)) = bigSep Finset.univ fun c : Dev nD => payToks c := by
  unfold ownToks payToks
  rw [seven_over (fun c => six fun s => dutyTok ER (sendCell 0 s c) 0 0) (fun c => six fun s => dutyTok ER (recvCell 0 s c) 0 0)
      (fun c => six fun s => dutyTok ER (sendCell 1 s c) 0 0) (fun c => six fun s => dutyTok ER (recvCell 1 s c) 0 0),
    six_around fun s c => dutyTok ER (recvCell 0 s c) 0 0, six_around fun s c => dutyTok ER (recvCell 1 s c) 0 0,
    bigSep_univ_equiv (upEquiv 3) fun c => (dutyTok ER (barCell c) 0 0 : sProp 𝕄), bigSep_univ_equiv (upEquiv 2) fun c => (dutyTok ER (barCell c) 0 1 : sProp 𝕄),
    bigSep_univ_equiv (upEquiv 1) fun c => (dutyTok ER (barCell c) 0 2 : sProp 𝕄)]
  exact (seven_over _ _ _ _ _ _ _).symm

/-! ## What the launch deals -/

variable (A : Ins F)

/-- What a device has of the launch's element: its cells' rounds, its positions, and its own cells' tokens. -/
def dealt (c : Dev nD) : sProp 𝕄 :=
  iprop((bigSep Finset.univ fun i : Fin 25 => roundState ER (moeRd A.pt A.rd) (kcell (c, i)) 0)
    ∗ (bigSep Finset.univ fun i : Fin 25 => reached ER (kcell (c, i)) 0) ∗ (bigSep Finset.univ fun i : Fin 25 => atPos ER (kcell (c, i)) 0 ∅ 0)
    ∗ ownToks c)

/-- The record of all cells. -/
def allCells : sProp 𝕄 := bigSep Finset.univ fun x : Dev nD × Fin 25 => cellOk A.pt A.rd (kcell x)
instance allCells_persistent : BI.Persistent (allCells A) := by unfold allCells; infer_instance

/-- What a device has once every cell's invariant stands. -/
def ready (c : Dev nD) : sProp 𝕄 := iprop(allCells A ∗ eachCell (fun g => atPos ER g 0 ∅ 0) c ∗ payToks c)

/-- The exchange's part of the launch's element. -/
abbrev u₁ : UB := initOf cells tokens

omit [FloatOps F] in
theorem over_cells (Ψ : GSem nD τ sig → sProp 𝕄) : bigSep cells Ψ = bigSep Finset.univ fun c : Dev nD => bigSep Finset.univ fun i : Fin 25 => Ψ (kcell (c, i)) := by
  unfold cells; rw [bigSep_map, bigSep_univ_prod]; rfl
omit [FloatOps F] in
theorem over_tokens : bigSep tokens (fun x => (dutyTok ER x.1 x.2.1 x.2.2 : sProp 𝕄)) = bigSep Finset.univ fun c : Dev nD => ownToks c := by
  unfold tokens; rw [bigSep_map, bigSep_univ_prod]
  exact bigSep_congr fun c _ => ownToks_eq c

theorem deal : BI.own (ER u₁) ⊢ (|==> bigSep Finset.univ (dealt A) : sProp 𝕄) := by
  iintro HX
  imod (Rounds.fund ER (moeRd A.pt A.rd) cells tokens) $$ HX with ⟨Hst, Hr, Hat, Htok⟩
  imodintro
  unfold dealt
  simp only [bigSep_sep']
  isplitl [Hst]
  · iapply (Entails.of_eq (over_cells fun g => roundState ER (moeRd A.pt A.rd) g 0)); iexact Hst
  isplitl [Hr]
  · iapply (Entails.of_eq (over_cells (F := F) fun g => reached ER g 0)); iexact Hr
  isplitl [Hat]
  · iapply (Entails.of_eq (over_cells (F := F) fun g => atPos ER g 0 ∅ 0)); iexact Hat
  iapply (Entails.of_eq (over_tokens (F := F))); iexact Htok

/-! ## The semaphores at zero -/

omit [FloatOps F] in
theorem own_zero (c : Dev nD) : (Pipeline.ownSems0 (Ix := Unit) (Name := ℕ) (U := UU) (Lvl := ℕ) (Val := Elt F) (τ := τ) osem c : sProp 𝕄)
    = iprop(six (fun s => semVal (sendCell 0 s c) 0) ∗ six (fun s => semVal (recvCell 0 s c) 0) ∗ six (fun s => semVal (sendCell 1 s c) 0)
      ∗ six (fun s => semVal (recvCell 1 s c) 0)) := by
  rw [Pipeline.ownSems0_eq_of_list c osem (List.finRange 24) (by decide) (by decide)]
  unfold six
  simp only [sep_regroup]
  rfl
omit [FloatOps F] in
theorem bar_zero (c : Dev nD) : (unscopedSems0 c : sProp 𝕄) = semVal (barCell c) 0 := by
  unfold unscopedSems0; rw [bigSep_eq_bigSepL_of_eq [SemLoc.reg barS] (by decide) (by decide)]; rfl
omit [FloatOps F] in
/-- The own semaphores' counters and the barrier's are those of the 25 cells. -/
theorem sems_zero (c : Dev nD) :
    iprop(Pipeline.ownSems0 (Ix := Unit) (Name := ℕ) (U := UU) (Lvl := ℕ) (Val := Elt F) (τ := τ) osem c ∗ unscopedSems0 c)
      = (eachCell (fun g => semVal g 0) c : sProp 𝕄) := by
  rw [own_zero, bar_zero]
  unfold eachCell six
  simp only [sep_regroup]

theorem open_cells (c : Dev nD) :
    iprop(Pipeline.ownSems0 (Ix := Unit) (Name := ℕ) (U := UU) (Lvl := ℕ) (Val := Elt F) (τ := τ) osem c ∗ unscopedSems0 c ∗ dealt A c)
      ⊢ |={Set.univ}=> iprop((bigSep Finset.univ fun i : Fin 25 => cellOk A.pt A.rd (kcell (c, i)))
          ∗ eachCell (fun g => atPos ER g 0 ∅ 0) c ∗ ownToks c) := by
  unfold dealt
  iintro ⟨Hos, Hus, Hst, Hr, Hat, Htok⟩
  ihave Hv := (Entails.of_eq (sems_zero (F := F) c)) $$ [Hos Hus]
  · isplitl [Hos] <;> iassumption
  ihave Hv' := (Entails.of_eq (eachCell_eq (fun g => (semVal g 0 : sProp 𝕄)) c).symm) $$ Hv
  imod (show iprop((bigSep Finset.univ fun i : Fin 25 => semVal (kcell (c, i)) 0) ∗ bigSep Finset.univ fun i : Fin 25 => roundState ER (moeRd A.pt A.rd) (kcell (c, i)) 0)
      ⊢ (|={Set.univ}=> bigSep Finset.univ fun i => iprop(∃ κ : ℕ, cellInv ER (moeRd A.pt A.rd) κ (kcell (c, i))) : sProp 𝕄) from by
        rw [← bigSep_sep']
        exact (bigSep_mono fun i _ => (Rounds.body_intro ER (moeRd A.pt A.rd) (kcell (c, i))).trans inv_alloc).trans (bigSep_fupd _ _)) $$ [Hv' Hst] with Hinv
  · isplitl [Hv'] <;> iassumption
  imodintro
  isplitl [Hinv Hr]
  · unfold cellOk
    rw [bigSep_sep']
    isplitl [Hinv] <;> iassumption
  isplitl [Hat]
  · iapply (Entails.of_eq (eachCell_eq (fun g => (atPos ER g 0 ∅ 0 : sProp 𝕄)) c)); iexact Hat
  iexact Htok

omit [FloatOps F] in
/-- What is persistent goes to every member of a conjunction. -/
theorem to_each {I : Type} [DecidableEq I] (S : Finset I) {R : sProp 𝕄} [BI.Persistent R] (Φ : I → sProp 𝕄) :
    iprop(R ∗ bigSep S Φ) ⊢ bigSep S fun i => iprop(R ∗ Φ i) :=
  (sep_mono_left (BI.bigSep_of_persistent S R)).trans (Entails.of_eq (bigSep_sep' S _ _).symm)

theorem all_ready :
    (bigSep Finset.univ fun c : Dev nD => iprop((bigSep Finset.univ fun i : Fin 25 => cellOk A.pt A.rd (kcell (c, i)))
          ∗ eachCell (fun g => atPos ER g 0 ∅ 0) c ∗ ownToks c) : sProp 𝕄)
      ⊢ bigSep Finset.univ (ready A) := by
  rw [bigSep_sep', bigSep_sep', ← bigSep_univ_prod (fun x : Dev nD × Fin 25 => cellOk A.pt A.rd (kcell x)), toks_around]
  unfold ready
  iintro ⟨#HI, Hat, Htok⟩
  iapply (to_each (R := allCells A) Finset.univ fun c : Dev nD => iprop(eachCell (fun g => atPos ER g 0 ∅ 0) c ∗ payToks c))
  isplitr
  · unfold allCells; iexact HI
  rw [bigSep_sep']
  isplitl [Hat] <;> iassumption

/-- The step that all devices take together at the launch. -/
theorem glob : (bigSep Finset.univ fun c => iprop(Pipeline.ownSems0 (Ix := Unit) (Name := ℕ) (U := UU) (Lvl := ℕ) (Val := Elt F) (τ := τ) osem c ∗ unscopedSems0 c ∗ dealt A c) : sProp 𝕄)
    ⊢ |={Set.univ}=> bigSep Finset.univ (ready A) :=
  ((bigSep_mono fun c _ => open_cells A c).trans (bigSep_fupd _ _)).trans (BI.fupd_mono (all_ready A))

/-! ## The credit of the launch -/

theorem due_append (l l' : List (GSem nD τ sig × ℕ)) : due (l ++ l') = due l' + due l := by
  induction l with
  | nil => exact (add_zero _).symm
  | cons x l ih => show due (l ++ l') + _ = due l' + (due l + _); rw [ih, add_assoc]

omit [FloatOps F] in
theorem cred_copies (p : Fin 2) (l : List (Fin 6)) (c : Dev nD) :
    (Pipeline.launchCred (fun d => due (dueCopies p l d)) c : sProp 𝕄) ⊢ bigSepL l fun s => cred (tallyAt (recvCell p s c) () N) := by
  induction l with
  | nil => exact Entails.of_eq (Pipeline.launchCred_zero c)
  | cons s l ih =>
    show (Pipeline.launchCred (fun d => due (dueCopies p l d) + tallyAt (recvCell p s (dst s d)) () N) c : sProp 𝕄) ⊢ _
    rw [Pipeline.launchCred_add]
    refine BIBase.Entails.trans (show _ ⊢ iprop(cred (tallyAt (recvCell p s c) () N) ∗ bigSepL l fun s => cred (tallyAt (recvCell p s c) () N)) from ?_)
      (Entails.of_eq (bigSepL_cons s l fun s => (cred (tallyAt (recvCell p s c) () N) : sProp 𝕄)).symm)
    iintro ⟨H, H'⟩
    isplitl [H']
    · iapply (Pipeline.launchCred_tallyAt (SemLoc.dma (recvS p s)) (dst s) (src s) (dst_src s) (src_dst s) () N c); iexact H'
    · iapply ih; iexact H

omit [FloatOps F] in
theorem cred_signal (n : Fin 5) (c : Dev nD) :
    (Pipeline.launchCred (fun d => tallyAt (barCell (up n d)) () 1) c : sProp 𝕄) ⊢ cred (tallyAt (barCell c) () 1) :=
  Pipeline.launchCred_tallyAt (SemLoc.reg barS) (up n) (up (4 - n)) (upEquiv n).right_inv (upEquiv n).left_inv () 1 c

omit [FloatOps F] in
theorem cred_bar (c : Dev nD) : (Pipeline.launchCred (fun d => due (dueBar d)) c : sProp 𝕄) ⊢ cred (tallyAt (barCell c) () 3) := by
  show (Pipeline.launchCred (fun d => ((0 + tallyAt (barCell (up 3 d)) () 1) + tallyAt (barCell (up 2 d)) () 1) + tallyAt (barCell (up 1 d)) () 1) c : sProp 𝕄) ⊢ _
  rw [Pipeline.launchCred_add, Pipeline.launchCred_add, Pipeline.launchCred_add, ← tallyAt_add (barCell c) () 2 1, ← tallyAt_add (barCell c) () 1 1]
  iintro ⟨⟨⟨-, H3⟩, H2⟩, H1⟩
  iapply (cred_add _ _).2
  isplitr [H1]
  · iapply (cred_add _ _).2
    isplitl [H3]
    · iapply (cred_signal (F := F) 3 c); iexact H3
    · iapply (cred_signal (F := F) 2 c); iexact H2
  · iapply (cred_signal (F := F) 1 c); iexact H1

omit [FloatOps F] in
/-- What a device may wait for: the three signals, and every copy to it. -/
theorem creds (c : Dev nD) :
    (Pipeline.launchCred O₀ c : sProp 𝕄) ⊢ iprop(cred (tallyAt (barCell c) () 3) ∗ six (fun s => cred (tallyAt (recvCell 0 s c) () N))
      ∗ six (fun s => cred (tallyAt (recvCell 1 s c) () N))) := by
  rw [show O₀ = fun d => (due (dueCopies 1 order1 d) + due (dueCopies 0 order0 d)) + due (dueBar d) from
      funext fun d => by unfold O₀; rw [due_append, due_append],
    Pipeline.launchCred_add, Pipeline.launchCred_add]
  iintro ⟨⟨H1, H0⟩, Hb⟩
  ihave H1' := (cred_copies (F := F) 1 order1 c) $$ H1
  ihave H0' := (cred_copies (F := F) 0 order0 c) $$ H0
  ihave H1'' := (show (bigSepL order1 fun s => cred (tallyAt (recvCell 1 s c) () N) : sProp 𝕄)
    ⊢ iprop(cred (tallyAt (recvCell 1 2 c) () N) ∗ cred (tallyAt (recvCell 1 0 c) () N) ∗ cred (tallyAt (recvCell 1 4 c) () N)
      ∗ cred (tallyAt (recvCell 1 3 c) () N) ∗ cred (tallyAt (recvCell 1 1 c) () N) ∗ cred (tallyAt (recvCell 1 5 c) () N)) from Entails.of_eq rfl) $$ H1'
  ihave H0'' := (show (bigSepL order0 fun s => cred (tallyAt (recvCell 0 s c) () N) : sProp 𝕄)
    ⊢ iprop(cred (tallyAt (recvCell 0 2 c) () N) ∗ cred (tallyAt (recvCell 0 3 c) () N) ∗ cred (tallyAt (recvCell 0 0 c) () N)
      ∗ cred (tallyAt (recvCell 0 1 c) () N) ∗ cred (tallyAt (recvCell 0 4 c) () N) ∗ cred (tallyAt (recvCell 0 5 c) () N)) from Entails.of_eq rfl) $$ H0'
  icases H1'' with ⟨B2, B0, B4, B3, B1, B5⟩
  icases H0'' with ⟨A2, A3, A0, A1, A4, A5⟩
  isplitl [Hb]; · iapply (cred_bar (F := F) c); iexact Hb
  isplitl [A0 A1 A2 A3 A4 A5]
  · isplitl [A0]; · iexact A0
    isplitl [A1]; · iexact A1
    isplitl [A2]; · iexact A2
    isplitl [A3]; · iexact A3
    isplitl [A4]; · iexact A4
    iexact A5
  · isplitl [B0]; · iexact B0
    isplitl [B1]; · iexact B1
    isplitl [B2]; · iexact B2
    isplitl [B3]; · iexact B3
    isplitl [B4]; · iexact B4
    iexact B5

/-! ## What the body starts from -/

omit [FloatOps F] in
theorem six_sep (Φ Ψ : Fin 6 → sProp 𝕄) : iprop(six Φ ∗ six Ψ) ⊢ six fun s => iprop(Φ s ∗ Ψ s) :=
  Entails.of_eq (by rw [← bigSep_six, ← bigSep_six, ← bigSep_six, bigSep_sep'])

omit [FloatOps F] in
theorem tickets_intro (c : Dev nD) :
    iprop(payToks c ∗ eachCell (fun g => atPos ER g 0 ∅ 0) c ∗ Pipeline.launchCred O₀ c) ⊢ (tickets c : sProp 𝕄) := by
  unfold payToks eachCell tickets
  iintro ⟨⟨⟨TS0, TR0, TS1, TR1⟩, B0, B1, B2⟩, ⟨PS0, PR0, PS1, PR1, PB⟩, Hc⟩
  ihave Hc' := (creds (F := F) c) $$ Hc
  icases Hc' with ⟨CB, C0, C1⟩
  isplitl [B0 B1 B2]
  · isplitl [B2]; · iexact B2
    isplitl [B1]; · iexact B1
    iexact B0
  isplitl [CB PB]
  · isplitl [CB]; · iexact CB
    iexact PB
  isplitl [TS0 TR0 PS0]
  · unfold toSend
    iapply (six_sep (fun s => dutyTok ER (sendCell 0 s c) 0 0) fun s => iprop(dutyTok ER (recvCell 0 s (dst s c)) 0 0 ∗ atPos ER (sendCell 0 s c) 0 ∅ 0))
    isplitl [TS0]; · iexact TS0
    iapply (six_sep (fun s => dutyTok ER (recvCell 0 s (dst s c)) 0 0) fun s => atPos ER (sendCell 0 s c) 0 ∅ 0)
    isplitl [TR0]; · iexact TR0
    iexact PS0
  isplitl [TS1 TR1 PS1]
  · unfold toSend
    iapply (six_sep (fun s => dutyTok ER (sendCell 1 s c) 0 0) fun s => iprop(dutyTok ER (recvCell 1 s (dst s c)) 0 0 ∗ atPos ER (sendCell 1 s c) 0 ∅ 0))
    isplitl [TS1]; · iexact TS1
    iapply (six_sep (fun s => dutyTok ER (recvCell 1 s (dst s c)) 0 0) fun s => atPos ER (sendCell 1 s c) 0 ∅ 0)
    isplitl [TR1]; · iexact TR1
    iexact PS1
  isplitl [C0 PR0]
  · unfold toRecv
    iapply (six_sep (fun s => cred (tallyAt (recvCell 0 s c) () N)) fun s => atPos ER (recvCell 0 s c) 0 ∅ 0)
    isplitl [C0]; · iexact C0
    iexact PR0
  · unfold toRecv
    iapply (six_sep (fun s => cred (tallyAt (recvCell 1 s c) () N)) fun s => atPos ER (recvCell 1 s c) 0 ∅ 0)
    isplitl [C1]; · iexact C1
    iexact PR1

end Cert.KernelIdeal.Moe

end
-- ==== Proof.KernelIdeal.Launch.lean ====
/-
# The run

The one call on four devices: from any memory, every execution ends, each device's result array holds what the devices
compute together from their argument arrays, the argument arrays hold what they held, and every semaphore is at zero.
-/
module

public import proofs.«01_k».proof.Proof.KernelIdeal.Ghost
public import proofs.«01_k».proof.Proof.Gen.KernelIdeal.Frame
public import Idealize.ShloMosaic.Lib.Pipeline.ValueKit
public import Idealize.ShloMosaic.Lib.Pipeline.CollectiveSegs

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arguments -/

/-- The devices' argument arrays. -/
def insOf : Ins F where
  x c := m ((c : Thread nD τ).loc main_arg0)
  rw c := m ((c : Thread nD τ).loc main_arg1)
  ix c := m ((c : Thread nD τ).loc main_arg2)
  ew c := m ((c : Thread nD τ).loc main_arg3)
  sw c := m ((c : Thread nD τ).loc main_arg4)

omit [FloatOps F] in
theorem blk_x (c : Dev nD) : iblk m c 0 t0_0 = (insOf m).x c := by
  unfold iblk; funext i; exact congrArg (m ((c : Thread nD τ).loc main_arg0)) (funext fun a => Fin.ext (by simp; exact Or.inl rfl))
omit [FloatOps F] in
theorem blk_rw (c : Dev nD) : iblk m c 1 t0_0 = (insOf m).rw c := by
  unfold iblk; funext i; exact congrArg (m ((c : Thread nD τ).loc main_arg1)) (funext fun a => Fin.ext (by simp; exact Or.inl rfl))
omit [FloatOps F] in
theorem blk_ix (c : Dev nD) : iblk m c 2 t0_0 = (insOf m).ix c := by
  unfold iblk; funext i; exact congrArg (m ((c : Thread nD τ).loc main_arg2)) (funext fun a => Fin.ext (by simp; exact Or.inl rfl))
omit [FloatOps F] in
theorem blk_ew (c : Dev nD) : iblk m c 3 t0_0 = (insOf m).ew c := by
  unfold iblk; funext i; exact congrArg (m ((c : Thread nD τ).loc main_arg3)) (funext fun a => Fin.ext (by simp; exact Or.inl rfl))
omit [FloatOps F] in
theorem blk_sw (c : Dev nD) : iblk m c 4 t0_0 = (insOf m).sw c := by
  unfold iblk; funext i; exact congrArg (m ((c : Thread nD τ).loc main_arg4)) (funext fun a => Fin.ext (by simp; exact Or.inl rfl))

/-! ## The proof data -/

/-- What device `c` starts from, beside the buffers; -/
def start (c : Dev nD) : sProp 𝕄 := iprop(know (insOf m) ∗ tickets c)
def Φ₀ (c : Dev nD) : sProp 𝕄 := iprop(start m c ∗ scratch (F := F) c)
/-- what it is left with. -/
def Φ₁ (c : Dev nD) : sProp 𝕄 := iprop(drained (F := F) c ∗ scratch (F := F) c)

def dats (_ : Fin 1) (c : Dev nD) : Dat τ (Elt F) Unit ℕ UU ℕ cfg0 c where
  A w := V m c (Pipeline.arrRef spec0 w)
  after w _ := match w with
    | ⟨0, _⟩ => (insOf m).x c
    | ⟨1, _⟩ => (insOf m).rw c
    | ⟨2, _⟩ => (insOf m).ix c
    | ⟨3, _⟩ => (insOf m).ew c
    | ⟨4, _⟩ => (insOf m).sw c
    | ⟨5, _⟩ => (insOf m).out c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem before_x (c : Dev nD) (d) : (dats m 0 c).before 0 t0_0 d = (insOf m).x c := by
  unfold Dat.before; rw [if_pos (fetch0_0 t0_0)]; exact blk_x m c
theorem before_rw (c : Dev nD) (d) : (dats m 0 c).before 1 t0_0 d = (insOf m).rw c := by
  unfold Dat.before; rw [if_pos (fetch0_1 t0_0)]; exact blk_rw m c
theorem before_ix (c : Dev nD) (d) : (dats m 0 c).before 2 t0_0 d = (insOf m).ix c := by
  unfold Dat.before; rw [if_pos (fetch0_2 t0_0)]; exact blk_ix m c
theorem before_ew (c : Dev nD) (d) : (dats m 0 c).before 3 t0_0 d = (insOf m).ew c := by
  unfold Dat.before; rw [if_pos (fetch0_3 t0_0)]; exact blk_ew m c
theorem before_sw (c : Dev nD) (d) : (dats m 0 c).before 4 t0_0 d = (insOf m).sw c := by
  unfold Dat.before; rw [if_pos (fetch0_4 t0_0)]; exact blk_sw m c

/-! ## The body -/

/-- What the point leaves. -/
def bodyPost (c : Dev nD) : sProp 𝕄 :=
  iprop(Φ₁ (F := F) c ∗ (dats m 0 c).owesAt () t0_0.succ
    ∗ hold c xM ((insOf m).x c) ∗ hold c rwM ((insOf m).rw c) ∗ hold c ixM ((insOf m).ix c) ∗ hold c ewM ((insOf m).ew c) ∗ hold c swM ((insOf m).sw c)
    ∗ hold c outM ((insOf m).out c))
/-- What the point starts from. -/
def bodyPre (c : Dev nD) : sProp 𝕄 :=
  iprop(Φ₀ m c ∗ (dats m 0 c).owesAt () t0_0.castSucc
    ∗ (∃ d, hold c xM ((dats m 0 c).before (0 : Fin 6) t0_0 d)) ∗ (∃ d, hold c rwM ((dats m 0 c).before (1 : Fin 6) t0_0 d))
    ∗ (∃ d, hold c ixM ((dats m 0 c).before (2 : Fin 6) t0_0 d)) ∗ (∃ d, hold c ewM ((dats m 0 c).before (3 : Fin 6) t0_0 d))
    ∗ (∃ d, hold c swM ((dats m 0 c).before (4 : Fin 6) t0_0 d)) ∗ (∃ d, hold c outM ((dats m 0 c).before (5 : Fin 6) t0_0 d)))

theorem point (c : Dev nD) : bodyPre m c ⊢ run c (body (F := F)) fun _ => bodyPost m c := by
  unfold bodyPre bodyPost Φ₀ Φ₁ start Dat.owesAt Pipeline.owesWithin
  iintro ⟨⟨⟨Hk, Ht⟩, Hs⟩, ⟨%W, %hW, Ho⟩, ⟨%d0, H0⟩, ⟨%d1, H1⟩, ⟨%d2, H2⟩, ⟨%d3, H3⟩, ⟨%d4, H4⟩, ⟨%d5, H5⟩⟩
  rw [before_x, before_rw, before_ix, before_ew, before_sw]
  iapply (run_body (A := insOf m) (c := c)) $$ [Hk Ht Hs Ho H0 H1 H2 H3 H4 H5]
  · isplitl [Hk]; · iexact Hk
    isplitl [Ho]
    · unfold owesL; iexists W; iexact Ho
    isplitl [Ht]; · iexact Ht
    isplitl [H0 H1 H2 H3 H4]
    · unfold inputs
      isplitl [H0]; · iexact H0
      isplitl [H1]; · iexact H1
      isplitl [H2]; · iexact H2
      isplitl [H3]; · iexact H3
      iexact H4
    isplitl [Hs]; · iexact Hs
    iexists _; iexact H5
  unfold inputs owesL
  iintro ⟨⟨%W', Ho⟩, Hd, ⟨H0, H1, H2, H3, H4⟩, Hs, H5⟩
  isplitl [Hd Hs]
  · isplitl [Hd] <;> iassumption
  isplitl [Ho]
  · iexists W'
    isplitr; · ipureintro; exact fun _ _ => Or.inl trivial
    iexact Ho
  isplitl [H0]; · iexact H0
  isplitl [H1]; · iexact H1
  isplitl [H2]; · iexact H2
  isplitl [H3]; · iexact H3
  isplitl [H4]; · iexact H4
  iexact H5

omit [FloatOps F] in
theorem windows (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 32000 in
theorem body_obligation (c : Dev nD) : BodyObligation (dats m 0 c) (defs₀ (F := F)) 𝒱₀ () Set.univ := fun t => by
  rw [show t = t0_0 from fin_N0 t, windows, windows]
  exact point m c

/-! ## The launch -/

theorem share_eq (c : Dev nD) (w : Fin cfg0.W) : (dats m 0 c).share w = fullShare := by unfold Dat.share; split <;> rfl

/-- The launch's element: the staging's, and the exchange's. -/
def u₀ : UU := (initOf (Pipeline.cells cfgs cellOf_inj) (Pipeline.launchToks cfgs cellOf_inj), u₁)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (insOf m) c)
      ⊢ |={Set.univ}=> iprop(start m c ∗ emp) := by
  unfold ready start know ctx allCells
  iintro ⟨-, Hlev, Hcr, -, Hall, Hat, Htok⟩
  imodintro
  isplitl
  · isplitl [Hall Hlev]
    · isplitl [Hall] <;> iassumption
    iapply (tickets_intro (F := F) c)
    isplitl [Htok]; · iexact Htok
    isplitl [Hat] <;> iassumption
  · iempintro

omit [FloatOps F] in
theorem whole_any (c : Dev nD) (b : Ref sig .tc) :
    (iprop(∃ f : Buf (Elt F) ((c : Thread nD τ).loc b), ((c : Thread nD τ).loc b) ↦{fullShare} f) : sProp 𝕄) = iprop(∃ X, hold c (Memref.whole b) X) := by
  have h : (iprop(∃ f : Buf (Elt F) ((c : Thread nD τ).loc b), ((c : Thread nD τ).loc b) ↦{fullShare} f) : sProp 𝕄) ⊢ iprop(∃ X, hold c (Memref.whole b) X) := by
    iintro ⟨%f, H⟩
    iexists f; unfold hold; rw [owns_whole_eq]; iexists f
    isplitr; · ipureintro; rfl
    iexact H
  have h' : (iprop(∃ X, hold c (Memref.whole b) X) : sProp 𝕄) ⊢ iprop(∃ f : Buf (Elt F) ((c : Thread nD τ).loc b), ((c : Thread nD τ).loc b) ↦{fullShare} f) := by
    unfold hold
    simp only [owns_whole_eq]
    iintro ⟨%X, %f, -, H⟩
    iexists f; iexact H
  exact BI.Entails.antisymm h h'

omit [FloatOps F] in
/-- The scratch buffers as the launch deals them. -/
theorem scratch_eq (c : Dev nD) : (Pipeline.scopedRest cfg0.spec c : sProp 𝕄) = scratch c := by
  rw [scopedRest0_eq]
  simp only [whole_any]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scratch_eq, own_zero, bar_zero]
  unfold Φ₁ drained
  iintro ⟨⟨Hb, S0, R0, S1, R1⟩, Hs⟩
  isplitl [Hb]; · iexact Hb
  isplitr [Hs]
  · isplitl [S0]; · iexact S0
    isplitl [R0]; · iexact R0
    isplitl [S1] <;> iassumption
  iexact Hs

omit [FloatOps F] in
/-- The waits on the staging cells lie below all that the body owes. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait_due c (.dma q) _ ?_
    have h0 : lv ((c : Thread nD τ), SemLoc.dma q) () = 0 := by
      show (if q.val / 6 = 2 then 2 else if q.val / 6 = 4 then 3 else 0) = 0
      rw [if_neg (by omega), if_neg (by omega)]
    rw [h0]
    exact above_append (above_bar 0 c (by decide)) (above_append (above_copies 0 0 _ c (by decide)) (above_copies 0 1 _ c (by decide)))
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Every window's array at what the run leaves. -/
def Ends (r : PUnit × MemSt nD τ sig (Elt F)) : Prop :=
  ∀ c : Dev nD, ∀ w : Fin cfg0.W, r.2.mem ((cfg0.win w).arr.view.loc (c : Thread nD τ)) = (dats m 0 c).arrAt w cfg0.N

set_option maxRecDepth 8000 in
theorem run_ends : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (insOf m)) (G' := ready (insOf m)) (u₀ := u₀)
    (hu₀ := by
      unfold u₀
      iintro Hu
      ihave H := (ownU_pair _ _) $$ Hu
      icases H with ⟨HP, HX⟩
      imod (deal (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array. -/
theorem result (c : Dev nD) : (dats m 0 c).arrAt (5 : Fin 6) cfg0.N = (insOf m).out c := by
  refine (dats m 0 c).arrAt_eq_of_after_last (5 : Fin 6) t0_0 (by decide +kernel) _ fun j => ?_
  rfl

/-- On four devices, for any float values, from any memory with the counters at zero: every execution ends with each
    device's result array at what the devices compute together, its argument arrays as they were, and every counter at zero. -/
theorem run_main : θ_run defs (onTc (τ := τ) (main (F := F))) ⟨m, fun _ => 0, ρ⟩ (fun r =>
    (∀ c : Dev nD, r.2.mem ((c.tc : Thread nD τ).loc main_v1) = (insOf m).out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨(h.1 c 5).trans (result m c), (h.1 c 0).trans ((dats m 0 c).arrAt_in 0 rfl _),
    (h.1 c 1).trans ((dats m 0 c).arrAt_in 1 rfl _), (h.1 c 2).trans ((dats m 0 c).arrAt_in 2 rfl _),
    (h.1 c 3).trans ((dats m 0 c).arrAt_in 3 rfl _), (h.1 c 4).trans ((dats m 0 c).arrAt_in 4 rfl _)⟩, h.2⟩) (run_ends m ρ)

end Cert.KernelIdeal.Moe

end
-- ==== Proof.Routing.lean ====
/-
# Routing a token to one expert of sixteen, over the extended reals

A token's scores become probabilities; the probability of its expert is its gate. The sum over all experts of what each
gives, the gate taken for the token's own expert and zero for the others, is the gate times the token's product with its
own expert: for that the gate must be a real number, which it is where the scores are.
-/
module

public import Idealize.ShloMosaic.Lib.Pointwise
public import Mathlib.Data.EReal.Operations

@[expose] public section

noncomputable section

namespace Cert.Moe

open Idealize.ShloMosaic
open scoped BigOperators

/-- The probability of one of sixteen scores. -/
def prob (s : Fin 16 → EReal) (e : Fin 16) : EReal :=
  Ideal.div (Ideal.exp (s e - Finset.fold max (Ideal.ofBits FTy.f32 0xFF800000#32) s Finset.univ))
    (∑ j, Ideal.exp (s j - Finset.fold max (Ideal.ofBits FTy.f32 0xFF800000#32) s Finset.univ))

/-- The gate of a token whose expert is written as the word `e`: zero where there is no such expert. -/
def gate (s : Fin 16 → EReal) (e : BitVec 32) : EReal := if h : e.toNat < 16 then prob s ⟨e.toNat, h⟩ else 0

/-- The greatest of sixteen real scores is real. -/
theorem max_real (t : Fin 16 → ℝ) : ∃ M : ℝ,
    Finset.fold max (Ideal.ofBits FTy.f32 0xFF800000#32) (fun e => (t e : EReal)) Finset.univ = (M : EReal) := by
  have hb : Ideal.ofBits FTy.f32 0xFF800000#32 = ⊥ := by simp [Ideal.ofBits, Ideal.ieee]
  rw [hb]
  have h1 : Finset.fold max (⊥ : EReal) (fun e => (t e : EReal)) Finset.univ ≠ ⊤ :=
    ne_of_lt ((Finset.fold_max_lt _).mpr ⟨bot_lt_top, fun e _ => EReal.coe_lt_top _⟩)
  have h2 : Finset.fold max (⊥ : EReal) (fun e => (t e : EReal)) Finset.univ ≠ ⊥ :=
    ne_of_gt ((Finset.lt_fold_max _).mpr (Or.inr ⟨0, Finset.mem_univ _, EReal.bot_lt_coe _⟩))
  exact ⟨_, (EReal.coe_toReal h1 h2).symm⟩

/-- A finite sum of real numbers is the real sum. -/
theorem sum_real {n : ℕ} (f : Fin n → ℝ) : (∑ j, (f j : EReal)) = ((∑ j, f j : ℝ) : EReal) := by
  induction n with
  | zero => simp
  | succ n ih => rw [Fin.sum_univ_succ, Fin.sum_univ_succ, ih, EReal.coe_add]

/-- Where every score is finite the gate is a real number, and not negative. -/
theorem gate_real (s : Fin 16 → EReal) (hs : ∀ e, s e ≠ ⊤ ∧ s e ≠ ⊥) (e : BitVec 32) : 0 ≤ gate s e ∧ gate s e ≠ ⊤ := by
  unfold gate
  split
  · rename_i h
    generalize (⟨e.toNat, h⟩ : Fin 16) = k
    obtain ⟨t, rfl⟩ : ∃ t : Fin 16 → ℝ, s = fun e => (t e : EReal) :=
      ⟨fun e => (s e).toReal, funext fun e => (EReal.coe_toReal (hs e).1 (hs e).2).symm⟩
    obtain ⟨M, hM⟩ := max_real t
    unfold prob
    rw [hM]
    simp only [← EReal.coe_sub, Ideal.exp_coe]
    rw [sum_real]
    have hp : 0 < ∑ j, Real.exp (t j - M) := Finset.sum_pos (fun j _ => Real.exp_pos _) ⟨0, Finset.mem_univ _⟩
    rw [Ideal.div_coe hp.ne', ← EReal.coe_mul]
    refine ⟨?_, EReal.coe_ne_top _⟩
    exact_mod_cast mul_nonneg (Real.exp_pos _).le (one_div_pos.mpr hp).le
  · exact ⟨le_refl _, EReal.zero_ne_top⟩

/-- A factor that is a real number, and not negative, comes out of a sum. -/
theorem mul_sum_real {n : ℕ} (g : EReal) (h0 : 0 ≤ g) (ht : g ≠ ⊤) (f : Fin n → EReal) : (∑ j, g * f j) = g * ∑ j, f j := by
  induction n with
  | zero => simp
  | succ n ih => rw [Fin.sum_univ_succ, Fin.sum_univ_succ, ih, EReal.left_distrib_of_nonneg_of_ne_top h0 ht]

/-- The number of an expert as a word. -/
theorem word_eq_iff (e : BitVec 32) (k : Fin 16) : e = BitVec.ofNat 32 k.val ↔ e.toNat = k.val := by
  constructor
  · intro h; rw [h]; simp; omega
  · intro h; apply BitVec.eq_of_toNat_eq; simp; omega

/-- A choice by whether two words are equal. -/
theorem select_eq {α : Type} (a b : BitVec 32) (y z : α) : Scalar.select (IntOp.cmpi CmpIPredicate.eq a b) y z = if a = b then y else z := by
  by_cases e : a = b
  · simp [Scalar.select, IntOp.cmpi, e]
  · simp [Scalar.select, IntOp.cmpi, e, beq_eq_false_iff_ne.mpr e]

/-- Over sixteen experts, only the token's own gives something. -/
theorem sum_own (e : BitVec 32) (f : Fin 16 → EReal) :
    (∑ k : Fin 16, if e = BitVec.ofNat 32 k.val then f k else 0) = if h : e.toNat < 16 then f ⟨e.toNat, h⟩ else 0 := by
  split
  · rename_i h
    rw [Finset.sum_eq_single (⟨e.toNat, h⟩ : Fin 16)]
    · rw [if_pos ((word_eq_iff e ⟨e.toNat, h⟩).mpr rfl)]
    · intro k _ hk
      rw [if_neg fun he => hk (Fin.ext ((word_eq_iff e k).mp he).symm)]
    · intro hk; exact absurd (Finset.mem_univ _) hk
  · rename_i h
    refine Finset.sum_eq_zero fun k _ => if_neg fun he => h ?_
    rw [(word_eq_iff e k).mp he]; exact k.isLt

/-- What four devices of four experts each give to a token: the gate times the product with its own expert. -/
theorem routed (e : BitVec 32) (g : EReal) (h0 : 0 ≤ g) (ht : g ≠ ⊤) (x : Fin 256 → EReal) (W : Fin 16 → Fin 256 → EReal) :
    (∑ c : Fin 4, ∑ le : Fin 4, ∑ d : Fin 256, (if e = BitVec.ofNat 32 (c.val * 4 + le.val) then x d * g else 0) * W ⟨c.val * 4 + le.val, by omega⟩ d)
      = if h : e.toNat < 16 then g * ∑ d, x d * W ⟨e.toNat, h⟩ d else 0 := by
  rw [← sum_own e fun k => g * ∑ d, x d * W k d, ← (finProdFinEquiv (m := 4) (n := 4)).sum_comp, Fintype.sum_prod_type]
  refine Finset.sum_congr rfl fun c _ => Finset.sum_congr rfl fun le _ => ?_
  have hk : (finProdFinEquiv (c, le) : Fin (4 * 4)) = (⟨c.val * 4 + le.val, by omega⟩ : Fin 16) := Fin.ext (by simp [finProdFinEquiv]; omega)
  rw [hk]
  by_cases h : e = BitVec.ofNat 32 (c.val * 4 + le.val)
  · rw [if_pos h, ← mul_sum_real g h0 ht]
    refine Finset.sum_congr rfl fun d _ => ?_
    rw [if_pos h, mul_comm (x d) g, mul_assoc]
  · rw [if_neg h]
    refine Finset.sum_eq_zero fun d _ => ?_
    rw [if_neg h, zero_mul]

end Cert.Moe

end
-- ==== Proof.KernelIdeal.Values.lean ====
/-
# What the blocks hold, over the extended reals

One chunk's part, read at a row and a column: the sum over the device's four experts of the gated product of the token
with the expert's weights, a gate being taken for the routed expert alone. Then the reduced chunks and the output.
-/
module

public import proofs.«01_k».proof.Proof.KernelIdeal.Contents
public import proofs.«01_k».proof.Proof.Routing
public import Idealize.ShloMosaic.Lib.Pointwise

@[expose] public section

noncomputable section

namespace Cert.KernelIdeal.Moe

open Cert.KernelIdeal Cert.KernelIdeal.Gen

open Idealize.ShloMosaic
open Idealize.ShloMosaic.TcCoe
open scoped BigOperators

set_option maxRecDepth 16384

/-- There are four experts on a device, and four devices. -/
theorem four_cases (i : Fin 4) : i = 0 ∨ i = 1 ∨ i = 2 ∨ i = 3 := by revert i; decide

/-- One chunk's part at a row and a column: over the four experts of the place `v`, the token's product with the expert,
each token's entry taken times the gate where the expert is the token's own, and zero elsewhere. -/
theorem chunk_apply (v : BitVec 32) (X : Vec Ideal S128x256 .f32) (I : Vec Ideal S128x1 .i32) (G : Vec Ideal S128x1 .f32)
    (W : Vec Ideal S1024x512 .bf16) (r : Fin 128) (h : Fin 512) :
    chunk v X I G W (ix2 r h) = ∑ le : Fin 4, ∑ d : Fin 256,
      (if I (ix2 r 0) = v * 4#32 + BitVec.ofNat 32 le.val then (X (ix2 r d) * G (ix2 r 0) : EReal) else 0) *
        W (ix2 ⟨256 * le.val + d.val, by omega⟩ h) := by
  unfold chunk
  pointwise [k0_pay14, k0_pay10, k0_pay11, k0_pay12, k0_pay13]
  rw [← (finProdFinEquiv (m := 4) (n := 256)).sum_comp, Fintype.sum_prod_type]
  refine Finset.sum_congr rfl fun le _ => Finset.sum_congr rfl fun d _ => ?_
  have hd := d.isLt
  rw [show ((finProdFinEquiv (le, d) : Fin (4 * 256)) : Fin 1024) = ⟨256 * le.val + d.val, by omega⟩ from Fin.ext (by simp [finProdFinEquiv]; omega)]
  congr 1
  simp only [Cert.Moe.select_eq, Scalar.addi, Scalar.muli, IntOp.addi, IntOp.muli]
  rcases four_cases le with rfl | rfl | rfl | rfl
  · rw [dif_pos (show 256 * (0 : Fin 4).val + d.val < 256 by simp)]
    simp
  · rw [dif_neg (show ¬ 256 * (1 : Fin 4).val + d.val < 256 by simp), dif_pos (show 256 * (1 : Fin 4).val + d.val - 256 < 256 by simp)]
    simp
  · rw [dif_neg (show ¬ 256 * (2 : Fin 4).val + d.val < 256 by simp; omega), dif_neg (show ¬ 256 * (2 : Fin 4).val + d.val - 256 < 256 by simp; omega),
      dif_pos (show 256 * (2 : Fin 4).val + d.val - 256 - 256 < 256 by simp; omega)]
    congr 4
    apply Fin.ext
    simp; omega
  · rw [dif_neg (show ¬ 256 * (3 : Fin 4).val + d.val < 256 by simp; omega), dif_neg (show ¬ 256 * (3 : Fin 4).val + d.val - 256 < 256 by simp; omega),
      dif_neg (show ¬ 256 * (3 : Fin 4).val + d.val - 256 - 256 < 256 by simp; omega)]
    congr 4
    apply Fin.ext
    simp; omega

/-- The place of device `c` is `c`. -/
theorem my_eq (c : Dev nD) : my c = BitVec.ofNat 32 c.val := by revert c; decide

/-- The number of device `c`'s expert `le`. -/
theorem word_expert (c : Dev nD) (le : Fin 4) :
    BitVec.ofNat 32 c.val * 4#32 + BitVec.ofNat 32 le.val = BitVec.ofNat 32 (c.val * 4 + le.val) := by revert c le; decide

namespace Ins

variable (A : Ins Ideal) (c : Dev nD)

/-- The stacked weights at row `256·e + d` are expert `e`'s at row `d`. -/
theorem ewb_apply (e : Fin 4) (d : Fin 256) (h : Fin 512) :
    A.ewb c (ix2 ⟨256 * e.val + d.val, by omega⟩ h) = A.ew c (ix3 e d h) := by
  have hi : (ix2 ⟨256 * e.val + d.val, by omega⟩ h : S1024x512.Idx) = (experts.box e).emb (ix2 d h) := by
    funext a
    apply Fin.ext
    match a with
    | ⟨0, _⟩ => show _ = 256 * e.val + 1 * d.val; simp
    | ⟨1, _⟩ => show _ = 0 + 1 * h.val; simp
  refine (congrArg (A.ewb c) hi).trans ((experts.glue_emb (fun e => k0_pay2 (cut (A.ew c) (ewBox e))) e (ix2 d h)).trans ?_)
  pointwise [k0_pay2, cut]
  congr 1
  funext a
  apply Fin.ext
  match a with
  | ⟨0, _⟩ => rfl
  | ⟨1, _⟩ => show 0 + 1 * d.val = d.val; simp
  | ⟨2, _⟩ => show 0 + 1 * h.val = h.val; simp

/-- What device `c`'s experts give to a row and a column of the output. -/
def loc (R : Fin 512) (h : Fin 512) : EReal := ∑ le : Fin 4, ∑ d : Fin 256,
  (if A.ix c (ix2 R 0) = BitVec.ofNat 32 (c.val * 4 + le.val) then (A.x c (ix2 R d) * A.gate c (ix2 R 0) : EReal) else 0) * A.ew c (ix3 le d h)

/-- The part of the chunk `k` places on is the device's contribution to that chunk's rows. -/
theorem part_apply (k : Fin 4) (r : Fin 128) (h : Fin 512) :
    A.part c k (ix2 r h) = A.loc c ⟨128 * ((c.val + k.val) % 4) + r.val, by omega⟩ h := by
  unfold part loc
  rw [chunk_apply]
  have hx : ∀ d : Fin 256, (xBox c k).emb (ix2 r d) = (ix2 ⟨128 * ((c.val + k.val) % 4) + r.val, by omega⟩ d : S512x256.Idx) := by
    intro d
    funext a
    apply Fin.ext
    match a with
    | ⟨0, _⟩ => show 128 * ((c.val + k.val) % 4) + 1 * r.val = _; simp
    | ⟨1, _⟩ => show 0 + 1 * d.val = d.val; simp
  have hi : (iBox c k).emb (ix2 r 0) = (ix2 ⟨128 * ((c.val + k.val) % 4) + r.val, by omega⟩ 0 : S512x1.Idx) := by
    funext a
    apply Fin.ext
    match a with
    | ⟨0, _⟩ => show 128 * ((c.val + k.val) % 4) + 1 * r.val = _; simp
    | ⟨1, _⟩ => rfl
  refine Finset.sum_congr rfl fun le _ => Finset.sum_congr rfl fun d _ => ?_
  rw [ewb_apply, my_eq, word_expert]
  unfold cut
  rw [hx, hi]

/-- A half's row lies within the output. -/
theorem row_lt (c : Dev nD) (hf : Fin 2) (r : Fin 64) : 128 * c.val + 64 * hf.val + r.val < 512 := by
  have h4 : c.val < 4 := c.isLt
  omega

/-- A row of a block of the output. -/
theorem blocks_emb (t : Dev nD × Fin 2) (r : Fin 64) (h : Fin 512) :
    (blocks.box t).emb (ix2 r h) = (ix2 ⟨128 * t.1.val + 64 * t.2.val + r.val, row_lt t.1 t.2 r⟩ h : S512x512.Idx) := by
  funext a
  apply Fin.ext
  match a with
  | ⟨0, _⟩ => show 128 * t.1.val + 64 * t.2.val + 1 * r.val = _; simp
  | ⟨1, _⟩ => show 0 + 1 * h.val = h.val; simp

/-- The reduced chunk of device `c` at a row of its half: the sum of all devices' contributions. -/
theorem rd_apply (hf : Fin 2) (r : Fin 64) (h : Fin 512) :
    A.rd c hf (ix3 0 r h) = ∑ c' : Dev nD, A.loc c' ⟨128 * c.val + 64 * hf.val + r.val, row_lt c hf r⟩ h := by
  have key : ∀ f : Dev nD → EReal, f c + f (up 3 c) + f (up 2 c) + f (up 1 c) = ∑ c', f c' := by
    intro f
    have hs : ∑ c', f c' = f 0 + f 1 + f 2 + f 3 := Fin.sum_univ_four f
    rw [hs]
    rcases four_cases c with rfl | rfl | rfl | rfl
    · change f 0 + f 3 + f 2 + f 1 = _; abel
    · change f 1 + f 0 + f 3 + f 2 = _; abel
    · change f 2 + f 1 + f 0 + f 3 = _; abel
    · change f 3 + f 2 + f 1 + f 0 = _; abel
  have hl : ∀ (c' : Dev nD) (R R' : Fin 512), R.val = R'.val → A.loc c' R h = A.loc c' R' h := fun c' R R' e => by rw [Fin.ext e]
  have h4 : c.val < 4 := c.isLt
  rw [← key]
  have hsrc : src 0 c = up 3 c ∧ src 1 c = up 3 c ∧ src 2 c = up 2 c ∧ src 3 c = up 2 c ∧ src 4 c = up 1 c ∧ src 5 c = up 1 c :=
    ⟨rfl, rfl, rfl, rfl, rfl, rfl⟩
  obtain ⟨s0, s1, s2, s3, s4, s5⟩ := hsrc
  obtain rfl | rfl : hf = 0 ∨ hf = 1 := by revert hf; decide
  all_goals simp only [rd, pt, upperHalf, lowerHalf]
  · pointwise [k0_pay37, k0_pay38, k0_pay39, k0_pay16]
    simp only [part_apply, s0, s2, s4]
    congr 1
    · congr 1
      · congr 1
        all_goals exact hl _ _ _ (by simp [up] <;> omega)
      · exact hl _ _ _ (by simp [up] <;> omega)
    · exact hl _ _ _ (by simp [up] <;> omega)
  · pointwise [k0_pay37, k0_pay38, k0_pay39, k0_pay16]
    simp only [part_apply, s1, s3, s5]
    congr 1
    · congr 1
      · congr 1
        all_goals exact hl _ _ _ (by simp [up] <;> omega)
      · exact hl _ _ _ (by simp [up] <;> omega)
    · exact hl _ _ _ (by simp [up] <;> omega)

/-- The output at a row and a column: the shared expert's product and all devices' contributions. -/
theorem out_apply (R h : Fin 512) :
    A.out c (ix2 R h) = (∑ d : Fin 256, (A.x c (ix2 R d) * A.sw c (ix2 d h) : EReal)) + ∑ c' : Dev nD, A.loc c' R h := by
  have hR := R.isLt
  have h4 : R.val / 128 < 4 := by omega
  have hi : (ix2 R h : S512x512.Idx) = (blocks.box ((⟨R.val / 128, h4⟩ : Dev nD), (⟨R.val % 128 / 64, by omega⟩ : Fin 2))).emb (ix2 (⟨R.val % 64, by omega⟩ : Fin 64) h) := by
    rw [blocks_emb]
    congr 1
    apply Fin.ext
    show R.val = 128 * (R.val / 128) + 64 * (R.val % 128 / 64) + R.val % 64
    omega
  refine (congrArg (A.out c) hi).trans ((blocks.glue_emb (A.outBlock c) _ _).trans ?_)
  unfold outBlock
  pointwise [k0_pay41, cut]
  rw [← hi, rd_apply]
  congr 1
  · unfold base swb
    pointwise [k0_pay40, k0_pay6, k0_pay7]
  · refine Finset.sum_congr rfl fun c' _ => ?_
    congr 1
    apply Fin.ext
    show 128 * (R.val / 128) + 64 * (R.val % 128 / 64) + R.val % 64 = R.val
    omega

/-- The gate of a token is the probability of its expert among the router's scores. -/
theorem gate_apply (R : Fin 512) :
    A.gate c (ix2 R 0) = Cert.Moe.gate (fun e => ∑ d : Fin 256, (A.x c (ix2 R d) * A.rw c (ix2 d e) : EReal)) (A.ix c (ix2 R 0)) := by
  unfold gate
  pointwise [k0_pay8, k0_pay9, k0_pay7]
  simp only [Cert.Moe.select_eq, eq_comm (b := A.ix c (ix2 R 0))]
  exact Cert.Moe.sum_own (A.ix c (ix2 R 0)) (Cert.Moe.prob fun e => ∑ d : Fin 256, (A.x c (ix2 R d) * A.rw c (ix2 d e) : EReal))

/-- The output, where all devices hold the same tokens, router and routes, each its four of the sixteen experts, and the
token's scores are finite: the shared expert's product, and the gate times the token's product with its own expert. -/
theorem out_routed (R h : Fin 512) (x : S512x256.Idx → EReal) (w : S256x16.Idx → EReal) (ix : S512x1.Idx → BitVec 32)
    (W : Fin 16 → Fin 256 → Fin 512 → EReal) (hx : ∀ c, A.x c = x) (hw : ∀ c, A.rw c = w) (hix : ∀ c, A.ix c = ix)
    (hW : ∀ (c : Dev nD) (le : Fin 4) (d : Fin 256), A.ew c (ix3 le d h) = W ⟨c.val * 4 + le.val, by have h4 : c.val < 4 := c.isLt; omega⟩ d h)
    (hs : ∀ e, (∑ d : Fin 256, x (ix2 R d) * w (ix2 d e)) ≠ ⊤ ∧ (∑ d : Fin 256, x (ix2 R d) * w (ix2 d e)) ≠ ⊥) :
    A.out c (ix2 R h) = (∑ d : Fin 256, (x (ix2 R d) * A.sw c (ix2 d h) : EReal)) +
      if hl : (ix (ix2 R 0)).toNat < 16 then
        Cert.Moe.gate (fun e => ∑ d : Fin 256, x (ix2 R d) * w (ix2 d e)) (ix (ix2 R 0)) * ∑ d : Fin 256, x (ix2 R d) * W ⟨_, hl⟩ d h
      else 0 := by
  have hg := Cert.Moe.gate_real (fun e => ∑ d : Fin 256, x (ix2 R d) * w (ix2 d e)) hs (ix (ix2 R 0))
  rw [out_apply, ← Cert.Moe.routed (ix (ix2 R 0)) _ hg.1 hg.2 (fun d => x (ix2 R d)) (fun k d => W k d h), hx]
  congr 1
  refine Finset.sum_congr rfl fun c' _ => ?_
  unfold loc
  refine Finset.sum_congr rfl fun le _ => Finset.sum_congr rfl fun d _ => ?_
  rw [gate_apply, hx, hw, hix, hW]

end Ins

end Cert.KernelIdeal.Moe

end
-- ==== Proof.ReferenceIdeal.Values.lean ====
/-
# What the reference computes

The reference's result at a row and a column, over the extended reals: the shared expert's product, and the gate of the
token's expert times the token's product with that expert.
-/
module

public import proofs.«01_k».proof.Proof.Gen.ReferenceIdeal.Run
public import proofs.«01_k».proof.Proof.Routing
public import Idealize.ShloMosaic.Lib.Pointwise

@[expose] public section

noncomputable section

namespace Cert.ReferenceIdeal.Moe

open Cert.ReferenceIdeal Cert.ReferenceIdeal.Gen

open Idealize.ShloMosaic
open Idealize.ShloMosaic.TcCoe
open scoped BigOperators

set_option maxRecDepth 16384

/-- A gather of single entries at pairs of a row and a column reads the entry at the clamped pair. -/
theorem gather_pair {α : Type} (x : S512x16.Idx → α) (idx : IVec S512x2 32) (r : Fin 512) :
    Host.gather gather_S512x16_S512x2_S512_n_01_n_n_01_1_11 x idx (ix1 r) =
      x (ix2 ⟨min (idx (ix2 r 0)).toInt.toNat 511, by omega⟩ ⟨min (idx (ix2 r 1)).toInt.toNat 15, by omega⟩) := by
  show x (GatherDims.operandIdx _ (ix1 r) idx) = _
  congr 1
  funext a
  apply Fin.ext
  match a with
  | ⟨0, _⟩ =>
    show GatherDims.start gather_S512x16_S512x2_S512_n_01_n_n_01_1_11 (ix1 r) idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (by simp [gather_S512x16_S512x2_S512_n_01_n_n_01_1_11]))]
    unfold GatherDims.start
    rw [dif_pos (show (0 : Fin 2) ∈ gather_S512x16_S512x2_S512_n_01_n_n_01_1_11.startIndexMap by simp [gather_S512x16_S512x2_S512_n_01_n_n_01_1_11])]
    show min (idx _).toInt.toNat 511 = min (idx _).toInt.toNat 511
    congr 4
    funext b
    match b with
    | ⟨0, _⟩ => rfl
    | ⟨1, _⟩ => rfl
  | ⟨1, _⟩ =>
    show GatherDims.start gather_S512x16_S512x2_S512_n_01_n_n_01_1_11 (ix1 r) idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (by simp [gather_S512x16_S512x2_S512_n_01_n_n_01_1_11]))]
    unfold GatherDims.start
    rw [dif_pos (show (1 : Fin 2) ∈ gather_S512x16_S512x2_S512_n_01_n_n_01_1_11.startIndexMap by simp [gather_S512x16_S512x2_S512_n_01_n_n_01_1_11])]
    show min (idx _).toInt.toNat 15 = min (idx _).toInt.toNat 15
    congr 4
    funext b
    match b with
    | ⟨0, _⟩ => rfl
    | ⟨1, _⟩ => rfl

/-- A gather of whole experts reads the expert at the clamped number. -/
theorem gather_expert {α : Type} (x : S16x256x512.Idx → α) (idx : IVec S512x1 32) (r : Fin 512) (d : Fin 256) (h : Fin 512) :
    Host.gather gather_S16x256x512_S512x1_S512x256x512_12_0_n_n_0_1_1256512 x idx (ix3 r d h) =
      x (ix3 ⟨min (idx (ix2 r 0)).toInt.toNat 15, by omega⟩ d h) := by
  show x (GatherDims.operandIdx _ (ix3 r d h) idx) = _
  congr 1
  funext a
  apply Fin.ext
  match a with
  | ⟨0, _⟩ =>
    show GatherDims.start gather_S16x256x512_S512x1_S512x256x512_12_0_n_n_0_1_1256512 (ix3 r d h) idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (by simp [gather_S16x256x512_S512x1_S512x256x512_12_0_n_n_0_1_1256512]))]
    unfold GatherDims.start
    rw [dif_pos (show (0 : Fin 3) ∈ gather_S16x256x512_S512x1_S512x256x512_12_0_n_n_0_1_1256512.startIndexMap by simp [gather_S16x256x512_S512x1_S512x256x512_12_0_n_n_0_1_1256512])]
    show min (idx _).toInt.toNat 15 = min (idx _).toInt.toNat 15
    congr 4
    funext b
    match b with
    | ⟨0, _⟩ => rfl
    | ⟨1, _⟩ => rfl
  | ⟨1, _⟩ =>
    show GatherDims.start gather_S16x256x512_S512x1_S512x256x512_12_0_n_n_0_1_1256512 (ix3 r d h) idx 1 + GatherDims.batchCoord _ _ 1 + GatherDims.offCoord _ _ 1 = d.val
    rw [GatherDims.batchCoord_eq_zero _ _ _ List.not_mem_nil]
    unfold GatherDims.start
    rw [dif_neg (show (1 : Fin 3) ∉ gather_S16x256x512_S512x1_S512x256x512_12_0_n_n_0_1_1256512.startIndexMap by simp [gather_S16x256x512_S512x1_S512x256x512_12_0_n_n_0_1_1256512])]
    show 0 + 0 + d.val = d.val
    simp
  | ⟨2, _⟩ =>
    show GatherDims.start gather_S16x256x512_S512x1_S512x256x512_12_0_n_n_0_1_1256512 (ix3 r d h) idx 2 + GatherDims.batchCoord _ _ 2 + GatherDims.offCoord _ _ 2 = h.val
    rw [GatherDims.batchCoord_eq_zero _ _ _ List.not_mem_nil]
    unfold GatherDims.start
    rw [dif_neg (show (2 : Fin 3) ∉ gather_S16x256x512_S512x1_S512x256x512_12_0_n_n_0_1_1256512.startIndexMap by simp [gather_S16x256x512_S512x1_S512x256x512_12_0_n_n_0_1_1256512])]
    show 0 + 0 + h.val = h.val
    simp

variable (X : FVec Ideal S512x256 .f32) (RW : FVec Ideal S256x16 .f32) (I : IVec S512x1 32) (EW : FVec Ideal S16x256x512 .f32) (SW : FVec Ideal S256x512 .f32)

/-- The router's probabilities. -/
def probs : FVec Ideal S512x16 .f32 :=
  let s := Host.dotGeneral dot_S512x256_S256x16_S512x16_1_0_0_1_n_n none X RW
  let e := Host.exp (subf s (broadcastInDim S512x16 ![0, 1] bcast_S512x1_S512x16_0_1 (broadcastInDim S512x1 ![0] bcast_S512_S512x1_0
    (Host.reduce FloatOps.maximumf s (constant S_ .f32 0xFF800000#32) reducesTo_S512x16_S512_d1 h_S_))))
  Host.divf e (broadcastInDim S512x16 ![0, 1] bcast_S512x1_S512x16_0_1 (broadcastInDim S512x1 ![0] bcast_S512_S512x1_0
    (Host.reduceAdd e (constant S_ .f32 0x00000000#32) reducesTo_S512x16_S512_d1 h_S_)))

/-- Every row's pair: its own number and its expert. -/
def pairs : IVec S512x2 32 :=
  concatenate S512x2 1 [⟨S512x1, (broadcastInDim S512x1 ![0] bcast_S512_S512x1_0 (iotaInDim S512 32 0))⟩,
    ⟨S512x1, (broadcastInDim S512x1 ![0] bcast_S512_S512x1_0 (shapeCast _ I shapeCasts_S512x1_S512))⟩] concatenates_S512x1_S512x1_S512x2_d1

/-- Whether the pair lies within the probabilities. -/
def inside : IVec S512 1 :=
  Host.reduce IntOp.andi (andi (cmpi .sge (pairs I) (broadcastInDim S512x2 ![] bcast_S_S512x2 (constantI S_ 32 0#32)))
    (cmpi .sle (pairs I) (broadcastInDim S512x2 ![0, 1] bcast_S1x2_S512x2_0_1 (broadcastInDim S1x2 ![1] bcast_S2_S1x2_1 ((fun i => lit0 (S2.rowMajor i)))))))
    (constantI S_ 1 1#1) reducesTo_S512x2_S512_d1 h_S_

/-- The gates. -/
def gates : FVec Ideal S512 .f32 :=
  select (inside I) (Host.gather gather_S512x16_S512x2_S512_n_01_n_n_01_1_11 (probs X RW) (pairs I)) (broadcastInDim S512 ![] bcast_S_S512 (constant S_ .f32 0x00000000#32))

/-- The result. -/
def result : FVec Ideal S512x512 .f32 :=
  addf (Host.dotGeneral dot_S512x256_S256x512_S512x512_1_0_0_1_n_n none X SW)
    (mulf (broadcastInDim S512x512 ![0, 1] bcast_S512x1_S512x512_0_1 (broadcastInDim S512x1 ![0] bcast_S512_S512x1_0 (gates X RW I)))
      (Host.dotGeneral dot_S512x256_S512x256x512_S512x512_1_1_n_2_0_0 none X
        (Host.gather gather_S16x256x512_S512x1_S512x256x512_12_0_n_n_0_1_1256512 EW
          (broadcastInDim S512x1 ![0] bcast_S512_S512x1_0 (shapeCast _ I shapeCasts_S512x1_S512)))))

/-- A pair's first entry is its row, -/
theorem pairs_row (r : Fin 512) : pairs I (ix2 r 0) = BitVec.ofNat 32 r.val := by
  pointwise [pairs]

/-- and its second is the row's expert. -/
theorem pairs_expert (r : Fin 512) : pairs I (ix2 r 1) = I (ix2 r 0) := by
  pointwise [pairs]

/-- The probabilities are those of the router's scores. -/
theorem probs_apply (r : Fin 512) (e : Fin 16) :
    probs X RW (ix2 r e) = Cert.Moe.prob (fun e => ∑ d : Fin 256, (X (ix2 r d) * RW (ix2 d e) : EReal)) e := by
  pointwise [probs]
  rfl

/-- A row's number lies within the rows. -/
theorem row_inside (r : Fin 512) :
    IntOp.andi (IntOp.cmpi CmpIPredicate.sge (BitVec.ofNat 32 r.val) 0#32) (IntOp.cmpi CmpIPredicate.sle (BitVec.ofNat 32 r.val) 511#32) = 1#1 := by
  have h : (BitVec.ofNat 32 r.val).toInt = r.val := by
    rw [BitVec.toInt_eq_toNat_cond, BitVec.toNat_ofNat]
    have := r.isLt
    omega
  have h1 : (0#32).sle (BitVec.ofNat 32 r.val) = true := by rw [BitVec.sle_iff_toInt_le, h]; simp
  have h2 : (BitVec.ofNat 32 r.val).sle 511#32 = true := by
    rw [BitVec.sle_iff_toInt_le, h, show (511#32).toInt = 511 by decide]; have := r.isLt; omega
  simp [IntOp.cmpi, IntOp.andi, h1, h2]

/-- A word lies within the experts, read as a signed number, where it is less than sixteen. -/
theorem expert_inside (e : BitVec 32) :
    IntOp.andi (IntOp.cmpi CmpIPredicate.sge e 0#32) (IntOp.cmpi CmpIPredicate.sle e 15#32) = if e.toNat < 16 then 1#1 else 0#1 := by
  have h0 : (0#32).sle e = decide (0 ≤ e.toInt) := rfl
  have h1 : e.sle 15#32 = decide (e.toInt ≤ 15) := rfl
  have ht := BitVec.toInt_eq_toNat_cond e
  have hl := e.isLt
  simp only [IntOp.cmpi, h0, h1]
  by_cases h : e.toNat < 16
  · rw [if_pos h, decide_eq_true (show 0 ≤ e.toInt by split at ht <;> omega), decide_eq_true (show e.toInt ≤ 15 by split at ht <;> omega)]
    rfl
  · rw [if_neg h]
    by_cases h' : 0 ≤ e.toInt
    · rw [decide_eq_false (show ¬ e.toInt ≤ 15 by split at ht <;> omega), decide_eq_true h']
      rfl
    · rw [decide_eq_false h']
      simp [IntOp.andi]

/-- A row's pair lies within the probabilities where its expert is one of the sixteen. -/
theorem inside_apply (r : Fin 512) : inside I (ix1 r) = if (I (ix2 r 0)).toNat < 16 then 1#1 else 0#1 := by
  pointwise [inside]
  rw [show (Finset.univ : Finset (Fin 2)) = {0, 1} from rfl, Finset.fold_insert (by decide), Finset.fold_singleton, pairs_row, pairs_expert,
    show lit0 (S2.rowMajor (ix1 0)) = 511#32 from rfl, show lit0 (S2.rowMajor (ix1 1)) = 15#32 from rfl, row_inside, expert_inside]
  split <;> rfl

/-- The reference's gate of a row. -/
theorem gates_apply (r : Fin 512) :
    gates X RW I (ix1 r) = Cert.Moe.gate (fun e => ∑ d : Fin 256, (X (ix2 r d) * RW (ix2 d e) : EReal)) (I (ix2 r 0)) := by
  have hg := gather_pair (probs X RW) (pairs I) r
  unfold gates
  show Scalar.select (inside I (ix1 r)) (Host.gather _ (probs X RW) (pairs I) (ix1 r)) (Ideal.ofBits .f32 0x00000000#32) = _
  rw [hg, inside_apply, probs_apply, Ideal.ofBits_zero_f32]
  unfold Cert.Moe.gate
  by_cases h : (I (ix2 r 0)).toNat < 16
  · rw [if_pos h, dif_pos h]
    show Cert.Moe.prob _ _ = Cert.Moe.prob _ _
    have hr : (BitVec.ofNat 32 r.val).toInt.toNat = r.val := by
      rw [BitVec.toInt_eq_toNat_cond, BitVec.toNat_ofNat]
      have := r.isLt
      split <;> omega
    have he : (I (ix2 r 0)).toInt.toNat = (I (ix2 r 0)).toNat := by
      rw [BitVec.toInt_eq_toNat_cond]
      split <;> omega
    have h1 : (⟨min (pairs I (ix2 r 0)).toInt.toNat 511, by omega⟩ : Fin 512) = r := by
      apply Fin.ext
      show min (pairs I (ix2 r 0)).toInt.toNat 511 = r.val
      rw [pairs_row, hr]; have := r.isLt; omega
    have h2 : (⟨min (pairs I (ix2 r 1)).toInt.toNat 15, by omega⟩ : Fin 16) = ⟨(I (ix2 r 0)).toNat, h⟩ := by
      apply Fin.ext
      show min (pairs I (ix2 r 1)).toInt.toNat 15 = (I (ix2 r 0)).toNat
      rw [pairs_expert, he]; omega
    rw [h1, h2]
  · rw [if_neg h, dif_neg h]
    rfl

/-- The reference's result at a row and a column: the shared expert's product, and the gate times the token's product with
its own expert, zero where there is no such expert. -/
theorem result_apply (r h : Fin 512) : result X RW I EW SW (ix2 r h) = (∑ d : Fin 256, (X (ix2 r d) * SW (ix2 d h) : EReal)) +
    if hl : (I (ix2 r 0)).toNat < 16 then
      Cert.Moe.gate (fun e => ∑ d : Fin 256, (X (ix2 r d) * RW (ix2 d e) : EReal)) (I (ix2 r 0)) *
        ∑ d : Fin 256, (X (ix2 r d) * EW (ix3 ⟨_, hl⟩ d h) : EReal)
    else 0 := by
  pointwise [result, gather_expert]
  congr 1
  rw [gates_apply]
  split
  · rename_i hl
    have he : (⟨min (I (ix2 r 0)).toInt.toNat 15, by omega⟩ : Fin 16) = ⟨(I (ix2 r 0)).toNat, hl⟩ := by
      apply Fin.ext
      show min (I (ix2 r 0)).toInt.toNat 15 = (I (ix2 r 0)).toNat
      rw [BitVec.toInt_eq_toNat_cond]
      split <;> omega
    rw [he]
  · rename_i hl
    unfold Cert.Moe.gate
    rw [dif_neg hl, zero_mul]

end Cert.ReferenceIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Values
public import proofs.«01_k».proof.Proof.ReferenceIdeal.Values
public import Idealize.ShloMosaic.Lib.ReduceAll
public import Idealize.ShloMosaic.Lib.Layout
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel ends with its arguments as they were and every semaphore at zero. -/
theorem quiescentKernel : quiescent_Kernel := fun m g _ =>
  θ_run_mono (Cert.Kernel.Moe.run_main m g) fun _ h => ⟨fun c => (h.1 c).2, h.2⟩

/-- So does the kernel over the extended reals. -/
theorem quiescentKernelIdeal : quiescent_KernelIdeal := fun m g _ =>
  θ_run_mono (Cert.KernelIdeal.Moe.run_main m g) fun _ h => ⟨fun c => (h.1 c).2, h.2⟩

/-- So does the reference, which has no semaphore. -/
theorem quiescentReferenceIdeal : quiescent_ReferenceIdeal := fun m g _ =>
  θ_run_mono (Cert.ReferenceIdeal.Value.run m g) fun _ h => ⟨fun c => (h c).2, sem_eq_zero_of_no_sems rfl _⟩

/-- The precondition's shapes are as its operations want them. -/
theorem factsPreKernelIdeal : Cert.Pre_finite_scores_KernelIdeal.Facts where
  bcast_S_S512x16 := by decide
  reducesTo_S512x16_S_d0_1 := by decide
  h_S_ := by decide
  dot_S512x256_S256x16_S512x16_1_0_0_1_n_n_wf := by decide

/-- So are they over the whole arrays. -/
theorem factsPreReferenceIdeal : Cert.Pre_finite_scores_ReferenceIdeal.Facts where
  bcast_S_S512x16 := by decide
  reducesTo_S512x16_S_d0_1 := by decide
  h_S_ := by decide
  dot_S512x256_S256x16_S512x16_1_0_0_1_n_n_wf := by decide

attribute [local instance] factsPreKernelIdeal factsPreReferenceIdeal Cert.KernelIdeal.Gen.facts Cert.ReferenceIdeal.Gen.facts

/-- The precondition says that every router score is a real number. -/
theorem scores_finite (x : FVec Ideal Cert.KernelIdeal.S512x256 .f32) (w : FVec Ideal Cert.KernelIdeal.S256x16 .f32) (ix : IVec Cert.KernelIdeal.S512x1 32)
    (ew : FVec Ideal Cert.KernelIdeal.S4x256x512 .f32) (sw : FVec Ideal Cert.KernelIdeal.S256x512 .f32)
    (hpre : Cert.Pre_finite_scores_KernelIdeal.fn x w ix ew sw = fun _ => 1#1) (R : Fin 512) (e : Fin 16) :
    (∑ d : Fin 256, (x (ix2 R d) * w (ix2 d e) : EReal)) ≠ ⊤ ∧ (∑ d : Fin 256, (x (ix2 R d) * w (ix2 d e) : EReal)) ≠ ⊥ := by
  haveI : Subsingleton Cert.Pre_finite_scores_KernelIdeal.S_.Idx := ⟨fun a b => funext fun k => k.elim0⟩
  have h := Host.reduce_andi_all _ _ _ _ (fun k => k.elim0) (congrFun hpre fun k => k.elim0) (ix2 R e)
  have hd : Host.dotGeneral (F := Ideal) Cert.Pre_finite_scores_KernelIdeal.dot_S512x256_S256x16_S512x16_1_0_0_1_n_n none x w (ix2 R e)
      = (∑ d : Fin 256, (x (ix2 R d) * w (ix2 d e) : EReal)) := by
    pointwise
  have h' : Ideal.cmp .olt (max (Host.dotGeneral (F := Ideal) Cert.Pre_finite_scores_KernelIdeal.dot_S512x256_S256x16_S512x16_1_0_0_1_n_n none x w (ix2 R e))
      (-(Host.dotGeneral (F := Ideal) Cert.Pre_finite_scores_KernelIdeal.dot_S512x256_S256x16_S512x16_1_0_0_1_n_n none x w (ix2 R e))))
      (Ideal.ofBits .f32 0x7F800000#32) = 1#1 := h
  rw [hd, show Ideal.ofBits .f32 0x7F800000#32 = ⊤ by simp [Ideal.ofBits, Ideal.ieee]] at h'
  generalize (∑ d : Fin 256, (x (ix2 R d) * w (ix2 d e) : EReal)) = s at h' ⊢
  have hlt : max s (-s) < ⊤ := by
    by_contra hn
    simp [Ideal.cmp, hn] at h'
  rw [max_lt_iff] at hlt
  refine ⟨hlt.1.ne, fun hb => ?_⟩
  rw [hb] at hlt
  simp at hlt

/-- With finite scores, every device ends with the reference's result. -/
theorem algebraicKernelIdeal : algebraic_KernelIdeal_ReferenceIdeal_pre_finite_scores_KernelIdeal := by
  intro m g m' g' hpre hin
  refine ⟨_, θ_run_mono (Cert.KernelIdeal.Moe.run_main m g) fun r h c => ⟨(h.1 c).1.trans ?_, (h.1 c).2⟩,
    θ_run_mono (Cert.ReferenceIdeal.Value.run m' g') fun _ h => h 0⟩
  show (Cert.KernelIdeal.Moe.insOf m).out c = Cert.ReferenceIdeal.Moe.result _ _ _ _ _
  funext j
  obtain ⟨R, k, rfl⟩ : ∃ R k, j = ix2 R k := ⟨_, _, eq_ix2 j⟩
  have hs := fun e => scores_finite _ _ _ _ _ (hpre c) R e
  rw [(hin c).1, (hin c).2.1] at hs
  have ho := Cert.KernelIdeal.Moe.Ins.out_routed (Cert.KernelIdeal.Moe.insOf m) c R k _ _ _
    (fun e d h => m' (((0 : Dev Cert.ReferenceIdeal.nD).tc : Thread Cert.ReferenceIdeal.nD Cert.ReferenceIdeal.τ).loc Cert.ReferenceIdeal.main_arg3) (ix3 e d h))
    (fun c => (hin c).1) (fun c => (hin c).2.1) (fun c => (hin c).2.2.1)
    (fun c le d => by
      refine (congrFun (hin c).2.2.2.1 (ix3 le d k)).trans ?_
      rw [Layout.block_apply]
      congr 1
      funext a
      apply Fin.ext
      match a with
      | ⟨0, _⟩ => rfl
      | ⟨1, _⟩ => rfl
      | ⟨2, _⟩ => rfl) hs
  rw [ho, Cert.ReferenceIdeal.Moe.result_apply]
  have hsw : (Cert.KernelIdeal.Moe.insOf m).sw c = _ := (hin c).2.2.2.2
  rw [hsw]

/-- Everything that the statement claims. -/
theorem claim : Cert.Claim := ⟨Cert.Kernel.Gen.facts, Cert.KernelIdeal.Gen.facts, Cert.ReferenceIdeal.Gen.facts,
  factsPreKernelIdeal, factsPreReferenceIdeal, quiescentKernel, quiescentKernelIdeal, fun m g _ => quiescentKernelIdeal m g trivial,
  quiescentReferenceIdeal, fun m g _ => quiescentReferenceIdeal m g trivial, trivial, algebraicKernelIdeal⟩

end Cert.Proof

end
